-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8192x2048 : Shape := ⟨2, ![8192, 2048]⟩
abbrev S16x2048 : Shape := ⟨2, ![16, 2048]⟩
abbrev S16 : Shape := ⟨1, ![16]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S16x2048 : S_.BroadcastsInDim S16x2048 (![] : Fin 0 → Fin S16x2048.rank)
  reducesTo_S16x2048_S_d0_1 : S16x2048.ReducesTo [0, 1] S_
  bcast_S_S16 : S_.BroadcastsInDim S16 (![] : Fin 0 → Fin S16.rank)
  reducesTo_S16_S_d0 : S16.ReducesTo [0] S_

variable [Facts]

def fn {F : FTy → Type} [FloatOps F] (main_arg0 : FVec F S8192x2048 .f32) (main_arg1 : FVec F S16x2048 .f32) (main_arg2 : FVec F S16 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S16x2048 .f32 := Host.absf main_arg1
  let main_cst_0 : FVec F S_ .f32 := constant S_ .f32 0x7F800000#32
  let main_v5 : FVec F S16x2048 .f32 := broadcastInDim S16x2048 ![] bcast_S_S16x2048 main_cst_0
  let main_v6 : IVec S16x2048 1 := cmpf .olt main_v4 main_v5
  let main_c_1 : IVec S_ 1 := constantI S_ 1 1#1
  let main_v7 : IVec S_ 1 := (fun x v => Host.reduce IntOp.andi x v reducesTo_S16x2048_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  main_v13
-- ==== Kernel.lean ====
abbrev S8192x2048 : Shape := ⟨2, ![8192, 2048]⟩
abbrev S16x2048 : Shape := ⟨2, ![16, 2048]⟩
abbrev S16 : Shape := ⟨1, ![16]⟩
abbrev S16x1 : Shape := ⟨2, ![16, 1]⟩
abbrev S16x8192 : Shape := ⟨2, ![16, 8192]⟩
abbrev S512x2048 : Shape := ⟨2, ![512, 2048]⟩
abbrev S16x512 : Shape := ⟨2, ![16, 512]⟩
abbrev S131072 : Shape := ⟨1, ![131072]⟩
abbrev S16x256 : Shape := ⟨2, ![16, 256]⟩
abbrev S4096 : Shape := ⟨1, ![4096]⟩
abbrev S_ : Shape := ⟨0, ![]⟩
abbrev S1x16 : Shape := ⟨2, ![1, 16]⟩
abbrev S8192x16 : Shape := ⟨2, ![8192, 16]⟩

abbrev nBuf : Table → Nat
  | .hbm => 9
  | .local .tc .vmem => 6
  | .local .scVector .vmem => 3
  | _ => 0

abbrev bufTy : (tb : Table) → Fin (nBuf tb) → BufTy
  | .hbm, ⟨0, _⟩ => ⟨S8192x2048, .f32⟩
  | .hbm, ⟨1, _⟩ => ⟨S16x2048, .f32⟩
  | .hbm, ⟨2, _⟩ => ⟨S16, .f32⟩
  | .hbm, ⟨3, _⟩ => ⟨S16x1, .f32⟩
  | .hbm, ⟨4, _⟩ => ⟨S16x8192, .f32⟩
  | .hbm, ⟨5, _⟩ => ⟨S131072, .f32⟩
  | .hbm, ⟨6, _⟩ => ⟨S131072, .f32⟩
  | .hbm, ⟨7, _⟩ => ⟨S8192x16, .f32⟩
  | .hbm, ⟨8, _⟩ => ⟨S8192x16, .f32⟩
  | .local .tc .vmem, ⟨0, _⟩ => ⟨S16x2048, .f32⟩
  | .local .tc .vmem, ⟨1, _⟩ => ⟨S512x2048, .f32⟩
  | .local .tc .vmem, ⟨2, _⟩ => ⟨S512x2048, .f32⟩
  | .local .tc .vmem, ⟨3, _⟩ => ⟨S16x1, .f32⟩
  | .local .tc .vmem, ⟨4, _⟩ => ⟨S16x512, .f32⟩
  | .local .tc .vmem, ⟨5, _⟩ => ⟨S16x512, .f32⟩
  | .local .scVector .vmem, ⟨0, _⟩ => ⟨S16x256, .f32⟩
  | .local .scVector .vmem, ⟨1, _⟩ => ⟨S4096, .f32⟩
  | .local .scVector .vmem, ⟨2, _⟩ => ⟨S4096, .f32⟩
  | _, _ => ⟨S8192x2048, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => false
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev main_v4 : Ref sig .tc := ⟨.hbm, 8, rfl⟩
abbrev main_v1_scv : Ref sig .scVector := ⟨.hbm, 4, rfl⟩
abbrev main_v2_0_scv : Ref sig .scVector := ⟨.hbm, 5, rfl⟩
abbrev main_v2_1_scv : Ref sig .scVector := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 16], ![false, false]⟩

def k1_off1 (i : grid1.Coords) : Fin 2 → Nat :=
  let c0_i32_7_r0 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  ![0, v2.toNat]
@[reducible] def k1_t1_loop : Scf.Loop 32 :=
  let c0_i32_2 : BitVec 32 := 0#32
  let c16_i32_3 : BitVec 32 := 16#32
  let v6 : BitVec 32 := Scalar.addi c0_i32_2 c16_i32_3
  let c1_i32 : BitVec 32 := 1#32
  ⟨c0_i32_2, v6, c1_i32⟩
def k1_off2 (k1_t1 : Fin k1_t1_loop.trips) : Fin 2 → Nat :=
  let c0_i32_8 : BitVec 32 := 0#32
  let v10 : Index := Scalar.indexCast c0_i32_8
  let c0_i32_2 : BitVec 32 := 0#32
  let c1_i32 : BitVec 32 := 1#32
  let arg8 : BitVec 32 := Scf.iv c0_i32_2 c1_i32 k1_t1
  let c16_i32_7 : BitVec 32 := 16#32
  let v9 : BitVec 32 := Scalar.muli arg8 c16_i32_7
  let v11 : Index := Scalar.indexCast v9
  ![0, v11.toNat]
def k1_off3 (k1_t1 : Fin k1_t1_loop.trips) : Fin 2 → Nat :=
  let c1_i32_9 : BitVec 32 := 1#32
  let v13 : Index := Scalar.indexCast c1_i32_9
  let c0_i32_2 : BitVec 32 := 0#32
  let c1_i32 : BitVec 32 := 1#32
  let arg8 : BitVec 32 := Scf.iv c0_i32_2 c1_i32 k1_t1
  let c16_i32_7 : BitVec 32 := 16#32
  let v9 : BitVec 32 := Scalar.muli arg8 c16_i32_7
  let v14 : Index := Scalar.indexCast v9
  ![1, v14.toNat]
def k1_off4 (k1_t1 : Fin k1_t1_loop.trips) : Fin 2 → Nat :=
  let c2_i32_10 : BitVec 32 := 2#32
  let v16 : Index := Scalar.indexCast c2_i32_10
  let c0_i32_2 : BitVec 32 := 0#32
  let c1_i32 : BitVec 32 := 1#32
  let arg8 : BitVec 32 := Scf.iv c0_i32_2 c1_i32 k1_t1
  let c16_i32_7 : BitVec 32 := 16#32
  let v9 : BitVec 32 := Scalar.muli arg8 c16_i32_7
  let v17 : Index := Scalar.indexCast v9
  ![2, v17.toNat]
def k1_off5 (k1_t1 : Fin k1_t1_loop.trips) : Fin 2 → Nat :=
  let c3_i32 : BitVec 32 := 3#32
  let v19 : Index := Scalar.indexCast c3_i32
  let c0_i32_2 : BitVec 32 := 0#32
  let c1_i32 : BitVec 32 := 1#32
  let arg8 : BitVec 32 := Scf.iv c0_i32_2 c1_i32 k1_t1
  let c16_i32_7 : BitVec 32 := 16#32
  let v9 : BitVec 32 := Scalar.muli arg8 c16_i32_7
  let v20 : Index := Scalar.indexCast v9
  ![3, v20.toNat]
def k1_off6 (k1_t1 : Fin k1_t1_loop.trips) : Fin 2 → Nat :=
  let c4_i32 : BitVec 32 := 4#32
  let v22 : Index := Scalar.indexCast c4_i32
  let c0_i32_2 : BitVec 32 := 0#32
  let c1_i32 : BitVec 32 := 1#32
  let arg8 : BitVec 32 := Scf.iv c0_i32_2 c1_i32 k1_t1
  let c16_i32_7 : BitVec 32 := 16#32
  let v9 : BitVec 32 := Scalar.muli arg8 c16_i32_7
  let v23 : Index := Scalar.indexCast v9
  ![4, v23.toNat]
def k1_off7 (k1_t1 : Fin k1_t1_loop.trips) : Fin 2 → Nat :=
  let c5_i32 : BitVec 32 := 5#32
  let v25 : Index := Scalar.indexCast c5_i32
  let c0_i32_2 : BitVec 32 := 0#32
  let c1_i32 : BitVec 32 := 1#32
  let arg8 : BitVec 32 := Scf.iv c0_i32_2 c1_i32 k1_t1
  let c16_i32_7 : BitVec 32 := 16#32
  let v9 : BitVec 32 := Scalar.muli arg8 c16_i32_7
  let v26 : Index := Scalar.indexCast v9
  ![5, v26.toNat]
def k1_off8 (k1_t1 : Fin k1_t1_loop.trips) : Fin 2 → Nat :=
  let c6_i32 : BitVec 32 := 6#32
  let v28 : Index := Scalar.indexCast c6_i32
  let c0_i32_2 : BitVec 32 := 0#32
  let c1_i32 : BitVec 32 := 1#32
  let arg8 : BitVec 32 := Scf.iv c0_i32_2 c1_i32 k1_t1
  let c16_i32_7 : BitVec 32 := 16#32
  let v9 : BitVec 32 := Scalar.muli arg8 c16_i32_7
  let v29 : Index := Scalar.indexCast v9
  ![6, v29.toNat]
def k1_off9 (k1_t1 : Fin k1_t1_loop.trips) : Fin 2 → Nat :=
  let c7_i32 : BitVec 32 := 7#32
  let v31 : Index := Scalar.indexCast c7_i32
  let c0_i32_2 : BitVec 32 := 0#32
  let c1_i32 : BitVec 32 := 1#32
  let arg8 : BitVec 32 := Scf.iv c0_i32_2 c1_i32 k1_t1
  let c16_i32_7 : BitVec 32 := 16#32
  let v9 : BitVec 32 := Scalar.muli arg8 c16_i32_7
  let v32 : Index := Scalar.indexCast v9
  ![7, v32.toNat]
def k1_off10 (k1_t1 : Fin k1_t1_loop.trips) : Fin 2 → Nat :=
  let c8_i32 : BitVec 32 := 8#32
  let v34 : Index := Scalar.indexCast c8_i32
  let c0_i32_2 : BitVec 32 := 0#32
  let c1_i32 : BitVec 32 := 1#32
  let arg8 : BitVec 32 := Scf.iv c0_i32_2 c1_i32 k1_t1
  let c16_i32_7 : BitVec 32 := 16#32
  let v9 : BitVec 32 := Scalar.muli arg8 c16_i32_7
  let v35 : Index := Scalar.indexCast v9
  ![8, v35.toNat]
def k1_off11 (k1_t1 : Fin k1_t1_loop.trips) : Fin 2 → Nat :=
  let c9_i32 : BitVec 32 := 9#32
  let v37 : Index := Scalar.indexCast c9_i32
  let c0_i32_2 : BitVec 32 := 0#32
  let c1_i32 : BitVec 32 := 1#32
  let arg8 : BitVec 32 := Scf.iv c0_i32_2 c1_i32 k1_t1
  let c16_i32_7 : BitVec 32 := 16#32
  let v9 : BitVec 32 := Scalar.muli arg8 c16_i32_7
  let v38 : Index := Scalar.indexCast v9
  ![9, v38.toNat]
def k1_off12 (k1_t1 : Fin k1_t1_loop.trips) : Fin 2 → Nat :=
  let c10_i32 : BitVec 32 := 10#32
  let v40 : Index := Scalar.indexCast c10_i32
  let c0_i32_2 : BitVec 32 := 0#32
  let c1_i32 : BitVec 32 := 1#32
  let arg8 : BitVec 32 := Scf.iv c0_i32_2 c1_i32 k1_t1
  let c16_i32_7 : BitVec 32 := 16#32
  let v9 : BitVec 32 := Scalar.muli arg8 c16_i32_7
  let v41 : Index := Scalar.indexCast v9
  ![10, v41.toNat]
def k1_off13 (k1_t1 : Fin k1_t1_loop.trips) : Fin 2 → Nat :=
  let c11_i32 : BitVec 32 := 11#32
  let v43 : Index := Scalar.indexCast c11_i32
  let c0_i32_2 : BitVec 32 := 0#32
  let c1_i32 : BitVec 32 := 1#32
  let arg8 : BitVec 32 := Scf.iv c0_i32_2 c1_i32 k1_t1
  let c16_i32_7 : BitVec 32 := 16#32
  let v9 : BitVec 32 := Scalar.muli arg8 c16_i32_7
  let v44 : Index := Scalar.indexCast v9
  ![11, v44.toNat]
def k1_off14 (k1_t1 : Fin k1_t1_loop.trips) : Fin 2 → Nat :=
  let c12_i32 : BitVec 32 := 12#32
  let v46 : Index := Scalar.indexCast c12_i32
  let c0_i32_2 : BitVec 32 := 0#32
  let c1_i32 : BitVec 32 := 1#32
  let arg8 : BitVec 32 := Scf.iv c0_i32_2 c1_i32 k1_t1
  let c16_i32_7 : BitVec 32 := 16#32
  let v9 : BitVec 32 := Scalar.muli arg8 c16_i32_7
  let v47 : Index := Scalar.indexCast v9
  ![12, v47.toNat]
def k1_off15 (k1_t1 : Fin k1_t1_loop.trips) : Fin 2 → Nat :=
  let c13_i32 : BitVec 32 := 13#32
  let v49 : Index := Scalar.indexCast c13_i32
  let c0_i32_2 : BitVec 32 := 0#32
  let c1_i32 : BitVec 32 := 1#32
  let arg8 : BitVec 32 := Scf.iv c0_i32_2 c1_i32 k1_t1
  let c16_i32_7 : BitVec 32 := 16#32
  let v9 : BitVec 32 := Scalar.muli arg8 c16_i32_7
  let v50 : Index := Scalar.indexCast v9
  ![13, v50.toNat]
def k1_off16 (k1_t1 : Fin k1_t1_loop.trips) : Fin 2 → Nat :=
  let c14_i32 : BitVec 32 := 14#32
  let v52 : Index := Scalar.indexCast c14_i32
  let c0_i32_2 : BitVec 32 := 0#32
  let c1_i32 : BitVec 32 := 1#32
  let arg8 : BitVec 32 := Scf.iv c0_i32_2 c1_i32 k1_t1
  let c16_i32_7 : BitVec 32 := 16#32
  let v9 : BitVec 32 := Scalar.muli arg8 c16_i32_7
  let v53 : Index := Scalar.indexCast v9
  ![14, v53.toNat]
def k1_off17 (k1_t1 : Fin k1_t1_loop.trips) : Fin 2 → Nat :=
  let c15_i32 : BitVec 32 := 15#32
  let v55 : Index := Scalar.indexCast c15_i32
  let c0_i32_2 : BitVec 32 := 0#32
  let c1_i32 : BitVec 32 := 1#32
  let arg8 : BitVec 32 := Scf.iv c0_i32_2 c1_i32 k1_t1
  let c16_i32_7 : BitVec 32 := 16#32
  let v9 : BitVec 32 := Scalar.muli arg8 c16_i32_7
  let v56 : Index := Scalar.indexCast v9
  ![15, v56.toNat]

def k1_chk1 (v522 : IVec S16 32) : Prop :=
  (∀ a x, ((![v522] : Fin 1 → IVec S16 32) a x).toNat < S4096.size a)
theorem k1_idx1_inb : ∀ (v522 : IVec S16 32) (k1_hw1 : k1_chk1 v522), ∀ a x, ((![v522] : Fin 1 → IVec S16 32) a x).toNat < S4096.size a := fun v522 k1_hw1 => k1_hw1

def k1_chk2 (v524 : IVec S16 32) : Prop :=
  (∀ a x, ((![v524] : Fin 1 → IVec S16 32) a x).toNat < S4096.size a)
theorem k1_idx2_inb : ∀ (v524 : IVec S16 32) (k1_hw2 : k1_chk2 v524), ∀ a x, ((![v524] : Fin 1 → IVec S16 32) a x).toNat < S4096.size a := fun v524 k1_hw2 => k1_hw2

def k1_chk3 (v527 : IVec S16 32) : Prop :=
  (∀ a x, ((![v527] : Fin 1 → IVec S16 32) a x).toNat < S4096.size a)
theorem k1_idx3_inb : ∀ (v527 : IVec S16 32) (k1_hw3 : k1_chk3 v527), ∀ a x, ((![v527] : Fin 1 → IVec S16 32) a x).toNat < S4096.size a := fun v527 k1_hw3 => k1_hw3

def k1_chk4 (v529 : IVec S16 32) : Prop :=
  (∀ a x, ((![v529] : Fin 1 → IVec S16 32) a x).toNat < S4096.size a)
theorem k1_idx4_inb : ∀ (v529 : IVec S16 32) (k1_hw4 : k1_chk4 v529), ∀ a x, ((![v529] : Fin 1 → IVec S16 32) a x).toNat < S4096.size a := fun v529 k1_hw4 => k1_hw4

def k1_chk5 (v532 : IVec S16 32) : Prop :=
  (∀ a x, ((![v532] : Fin 1 → IVec S16 32) a x).toNat < S4096.size a)
theorem k1_idx5_inb : ∀ (v532 : IVec S16 32) (k1_hw5 : k1_chk5 v532), ∀ a x, ((![v532] : Fin 1 → IVec S16 32) a x).toNat < S4096.size a := fun v532 k1_hw5 => k1_hw5

def k1_chk6 (v534 : IVec S16 32) : Prop :=
  (∀ a x, ((![v534] : Fin 1 → IVec S16 32) a x).toNat < S4096.size a)
theorem k1_idx6_inb : ∀ (v534 : IVec S16 32) (k1_hw6 : k1_chk6 v534), ∀ a x, ((![v534] : Fin 1 → IVec S16 32) a x).toNat < S4096.size a := fun v534 k1_hw6 => k1_hw6

def k1_chk7 (v537 : IVec S16 32) : Prop :=
  (∀ a x, ((![v537] : Fin 1 → IVec S16 32) a x).toNat < S4096.size a)
theorem k1_idx7_inb : ∀ (v537 : IVec S16 32) (k1_hw7 : k1_chk7 v537), ∀ a x, ((![v537] : Fin 1 → IVec S16 32) a x).toNat < S4096.size a := fun v537 k1_hw7 => k1_hw7

def k1_chk8 (v539 : IVec S16 32) : Prop :=
  (∀ a x, ((![v539] : Fin 1 → IVec S16 32) a x).toNat < S4096.size a)
theorem k1_idx8_inb : ∀ (v539 : IVec S16 32) (k1_hw8 : k1_chk8 v539), ∀ a x, ((![v539] : Fin 1 → IVec S16 32) a x).toNat < S4096.size a := fun v539 k1_hw8 => k1_hw8

def k1_chk9 (v542 : IVec S16 32) : Prop :=
  (∀ a x, ((![v542] : Fin 1 → IVec S16 32) a x).toNat < S4096.size a)
theorem k1_idx9_inb : ∀ (v542 : IVec S16 32) (k1_hw9 : k1_chk9 v542), ∀ a x, ((![v542] : Fin 1 → IVec S16 32) a x).toNat < S4096.size a := fun v542 k1_hw9 => k1_hw9

def k1_chk10 (v544 : IVec S16 32) : Prop :=
  (∀ a x, ((![v544] : Fin 1 → IVec S16 32) a x).toNat < S4096.size a)
theorem k1_idx10_inb : ∀ (v544 : IVec S16 32) (k1_hw10 : k1_chk10 v544), ∀ a x, ((![v544] : Fin 1 → IVec S16 32) a x).toNat < S4096.size a := fun v544 k1_hw10 => k1_hw10

def k1_chk11 (v547 : IVec S16 32) : Prop :=
  (∀ a x, ((![v547] : Fin 1 → IVec S16 32) a x).toNat < S4096.size a)
theorem k1_idx11_inb : ∀ (v547 : IVec S16 32) (k1_hw11 : k1_chk11 v547), ∀ a x, ((![v547] : Fin 1 → IVec S16 32) a x).toNat < S4096.size a := fun v547 k1_hw11 => k1_hw11

def k1_chk12 (v549 : IVec S16 32) : Prop :=
  (∀ a x, ((![v549] : Fin 1 → IVec S16 32) a x).toNat < S4096.size a)
theorem k1_idx12_inb : ∀ (v549 : IVec S16 32) (k1_hw12 : k1_chk12 v549), ∀ a x, ((![v549] : Fin 1 → IVec S16 32) a x).toNat < S4096.size a := fun v549 k1_hw12 => k1_hw12

def k1_chk13 (v552 : IVec S16 32) : Prop :=
  (∀ a x, ((![v552] : Fin 1 → IVec S16 32) a x).toNat < S4096.size a)
theorem k1_idx13_inb : ∀ (v552 : IVec S16 32) (k1_hw13 : k1_chk13 v552), ∀ a x, ((![v552] : Fin 1 → IVec S16 32) a x).toNat < S4096.size a := fun v552 k1_hw13 => k1_hw13

def k1_chk14 (v554 : IVec S16 32) : Prop :=
  (∀ a x, ((![v554] : Fin 1 → IVec S16 32) a x).toNat < S4096.size a)
theorem k1_idx14_inb : ∀ (v554 : IVec S16 32) (k1_hw14 : k1_chk14 v554), ∀ a x, ((![v554] : Fin 1 → IVec S16 32) a x).toNat < S4096.size a := fun v554 k1_hw14 => k1_hw14

def k1_chk15 (v557 : IVec S16 32) : Prop :=
  (∀ a x, ((![v557] : Fin 1 → IVec S16 32) a x).toNat < S4096.size a)
theorem k1_idx15_inb : ∀ (v557 : IVec S16 32) (k1_hw15 : k1_chk15 v557), ∀ a x, ((![v557] : Fin 1 → IVec S16 32) a x).toNat < S4096.size a := fun v557 k1_hw15 => k1_hw15

def k1_chk16 (v559 : IVec S16 32) : Prop :=
  (∀ a x, ((![v559] : Fin 1 → IVec S16 32) a x).toNat < S4096.size a)
theorem k1_idx16_inb : ∀ (v559 : IVec S16 32) (k1_hw16 : k1_chk16 v559), ∀ a x, ((![v559] : Fin 1 → IVec S16 32) a x).toNat < S4096.size a := fun v559 k1_hw16 => k1_hw16

def k1_chk17 (v562 : IVec S16 32) : Prop :=
  (∀ a x, ((![v562] : Fin 1 → IVec S16 32) a x).toNat < S4096.size a)
theorem k1_idx17_inb : ∀ (v562 : IVec S16 32) (k1_hw17 : k1_chk17 v562), ∀ a x, ((![v562] : Fin 1 → IVec S16 32) a x).toNat < S4096.size a := fun v562 k1_hw17 => k1_hw17

def k1_chk18 (v564 : IVec S16 32) : Prop :=
  (∀ a x, ((![v564] : Fin 1 → IVec S16 32) a x).toNat < S4096.size a)
theorem k1_idx18_inb : ∀ (v564 : IVec S16 32) (k1_hw18 : k1_chk18 v564), ∀ a x, ((![v564] : Fin 1 → IVec S16 32) a x).toNat < S4096.size a := fun v564 k1_hw18 => k1_hw18

def k1_chk19 (v567 : IVec S16 32) : Prop :=
  (∀ a x, ((![v567] : Fin 1 → IVec S16 32) a x).toNat < S4096.size a)
theorem k1_idx19_inb : ∀ (v567 : IVec S16 32) (k1_hw19 : k1_chk19 v567), ∀ a x, ((![v567] : Fin 1 → IVec S16 32) a x).toNat < S4096.size a := fun v567 k1_hw19 => k1_hw19

def k1_chk20 (v569 : IVec S16 32) : Prop :=
  (∀ a x, ((![v569] : Fin 1 → IVec S16 32) a x).toNat < S4096.size a)
theorem k1_idx20_inb : ∀ (v569 : IVec S16 32) (k1_hw20 : k1_chk20 v569), ∀ a x, ((![v569] : Fin 1 → IVec S16 32) a x).toNat < S4096.size a := fun v569 k1_hw20 => k1_hw20

def k1_chk21 (v572 : IVec S16 32) : Prop :=
  (∀ a x, ((![v572] : Fin 1 → IVec S16 32) a x).toNat < S4096.size a)
theorem k1_idx21_inb : ∀ (v572 : IVec S16 32) (k1_hw21 : k1_chk21 v572), ∀ a x, ((![v572] : Fin 1 → IVec S16 32) a x).toNat < S4096.size a := fun v572 k1_hw21 => k1_hw21

def k1_chk22 (v574 : IVec S16 32) : Prop :=
  (∀ a x, ((![v574] : Fin 1 → IVec S16 32) a x).toNat < S4096.size a)
theorem k1_idx22_inb : ∀ (v574 : IVec S16 32) (k1_hw22 : k1_chk22 v574), ∀ a x, ((![v574] : Fin 1 → IVec S16 32) a x).toNat < S4096.size a := fun v574 k1_hw22 => k1_hw22

def k1_chk23 (v577 : IVec S16 32) : Prop :=
  (∀ a x, ((![v577] : Fin 1 → IVec S16 32) a x).toNat < S4096.size a)
theorem k1_idx23_inb : ∀ (v577 : IVec S16 32) (k1_hw23 : k1_chk23 v577), ∀ a x, ((![v577] : Fin 1 → IVec S16 32) a x).toNat < S4096.size a := fun v577 k1_hw23 => k1_hw23

def k1_chk24 (v579 : IVec S16 32) : Prop :=
  (∀ a x, ((![v579] : Fin 1 → IVec S16 32) a x).toNat < S4096.size a)
theorem k1_idx24_inb : ∀ (v579 : IVec S16 32) (k1_hw24 : k1_chk24 v579), ∀ a x, ((![v579] : Fin 1 → IVec S16 32) a x).toNat < S4096.size a := fun v579 k1_hw24 => k1_hw24

def k1_chk25 (v582 : IVec S16 32) : Prop :=
  (∀ a x, ((![v582] : Fin 1 → IVec S16 32) a x).toNat < S4096.size a)
theorem k1_idx25_inb : ∀ (v582 : IVec S16 32) (k1_hw25 : k1_chk25 v582), ∀ a x, ((![v582] : Fin 1 → IVec S16 32) a x).toNat < S4096.size a := fun v582 k1_hw25 => k1_hw25

def k1_chk26 (v584 : IVec S16 32) : Prop :=
  (∀ a x, ((![v584] : Fin 1 → IVec S16 32) a x).toNat < S4096.size a)
theorem k1_idx26_inb : ∀ (v584 : IVec S16 32) (k1_hw26 : k1_chk26 v584), ∀ a x, ((![v584] : Fin 1 → IVec S16 32) a x).toNat < S4096.size a := fun v584 k1_hw26 => k1_hw26

def k1_chk27 (v587 : IVec S16 32) : Prop :=
  (∀ a x, ((![v587] : Fin 1 → IVec S16 32) a x).toNat < S4096.size a)
theorem k1_idx27_inb : ∀ (v587 : IVec S16 32) (k1_hw27 : k1_chk27 v587), ∀ a x, ((![v587] : Fin 1 → IVec S16 32) a x).toNat < S4096.size a := fun v587 k1_hw27 => k1_hw27

def k1_chk28 (v589 : IVec S16 32) : Prop :=
  (∀ a x, ((![v589] : Fin 1 → IVec S16 32) a x).toNat < S4096.size a)
theorem k1_idx28_inb : ∀ (v589 : IVec S16 32) (k1_hw28 : k1_chk28 v589), ∀ a x, ((![v589] : Fin 1 → IVec S16 32) a x).toNat < S4096.size a := fun v589 k1_hw28 => k1_hw28

def k1_chk29 (v592 : IVec S16 32) : Prop :=
  (∀ a x, ((![v592] : Fin 1 → IVec S16 32) a x).toNat < S4096.size a)
theorem k1_idx29_inb : ∀ (v592 : IVec S16 32) (k1_hw29 : k1_chk29 v592), ∀ a x, ((![v592] : Fin 1 → IVec S16 32) a x).toNat < S4096.size a := fun v592 k1_hw29 => k1_hw29

def k1_chk30 (v594 : IVec S16 32) : Prop :=
  (∀ a x, ((![v594] : Fin 1 → IVec S16 32) a x).toNat < S4096.size a)
theorem k1_idx30_inb : ∀ (v594 : IVec S16 32) (k1_hw30 : k1_chk30 v594), ∀ a x, ((![v594] : Fin 1 → IVec S16 32) a x).toNat < S4096.size a := fun v594 k1_hw30 => k1_hw30

def k1_chk31 (v597 : IVec S16 32) : Prop :=
  (∀ a x, ((![v597] : Fin 1 → IVec S16 32) a x).toNat < S4096.size a)
theorem k1_idx31_inb : ∀ (v597 : IVec S16 32) (k1_hw31 : k1_chk31 v597), ∀ a x, ((![v597] : Fin 1 → IVec S16 32) a x).toNat < S4096.size a := fun v597 k1_hw31 => k1_hw31

def k1_chk32 (v599 : IVec S16 32) : Prop :=
  (∀ a x, ((![v599] : Fin 1 → IVec S16 32) a x).toNat < S4096.size a)
theorem k1_idx32_inb : ∀ (v599 : IVec S16 32) (k1_hw32 : k1_chk32 v599), ∀ a x, ((![v599] : Fin 1 → IVec S16 32) a x).toNat < S4096.size a := fun v599 k1_hw32 => k1_hw32
def k1_off18 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c16_i32_5 : BitVec 32 := 16#32
  let v7 : BitVec 32 := Scalar.muli v2 c16_i32_5
  ![v7.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8192x2048 : Shape := ⟨2, ![8192, 2048]⟩
abbrev S16x2048 : Shape := ⟨2, ![16, 2048]⟩
abbrev S16 : Shape := ⟨1, ![16]⟩
abbrev S2048x16 : Shape := ⟨2, ![2048, 16]⟩
abbrev S8192x16 : Shape := ⟨2, ![8192, 16]⟩
abbrev S1x16 : Shape := ⟨2, ![1, 16]⟩
abbrev S8192x2 : Shape := ⟨2, ![8192, 2]⟩
abbrev S8192 : Shape := ⟨1, ![8192]⟩
abbrev S8192x1 : Shape := ⟨2, ![8192, 1]⟩
abbrev S_ : Shape := ⟨0, ![]⟩
abbrev S8192x2x1 : Shape := ⟨3, ![8192, 2, 1]⟩
abbrev S8192x2x2 : Shape := ⟨3, ![8192, 2, 2]⟩

abbrev nBuf : Space → Nat
  | .hbm => 50
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S16x2048, .f32⟩
  | .hbm, ⟨2, _⟩ => ⟨S16, .f32⟩
  | .hbm, ⟨3, _⟩ => ⟨S2048x16, .f32⟩
  | .hbm, ⟨4, _⟩ => ⟨S8192x16, .f32⟩
  | .hbm, ⟨5, _⟩ => ⟨S1x16, .f32⟩
  | .hbm, ⟨6, _⟩ => ⟨S8192x16, .f32⟩
  | .hbm, ⟨7, _⟩ => ⟨S8192x16, .f32⟩
  | .hbm, ⟨8, _⟩ => ⟨S8192x2, .f32⟩
  | .hbm, ⟨9, _⟩ => ⟨S8192x2, .i32⟩
  | .hbm, ⟨10, _⟩ => ⟨S8192, .i32⟩
  | .hbm, ⟨11, _⟩ => ⟨S8192x1, .i32⟩
  | .hbm, ⟨12, _⟩ => ⟨S_, .f32⟩
  | .hbm, ⟨13, _⟩ => ⟨S8192x16, .f32⟩
  | .hbm, ⟨14, _⟩ => ⟨S_, .i32⟩
  | .hbm, ⟨15, _⟩ => ⟨S8192x1, .i32⟩
  | .hbm, ⟨16, _⟩ => ⟨S8192x1, .i1⟩
  | .hbm, ⟨17, _⟩ => ⟨S_, .i32⟩
  | .hbm, ⟨18, _⟩ => ⟨S8192x1, .i32⟩
  | .hbm, ⟨19, _⟩ => ⟨S8192x1, .i32⟩
  | .hbm, ⟨20, _⟩ => ⟨S8192x1, .i32⟩
  | .hbm, ⟨21, _⟩ => ⟨S_, .i32⟩
  | .hbm, ⟨22, _⟩ => ⟨S8192x2, .i32⟩
  | .hbm, ⟨23, _⟩ => ⟨S8192x2, .i1⟩
  | .hbm, ⟨24, _⟩ => ⟨S_, .i32⟩
  | .hbm, ⟨25, _⟩ => ⟨S8192x2, .i32⟩
  | .hbm, ⟨26, _⟩ => ⟨S8192x2, .i32⟩
  | .hbm, ⟨27, _⟩ => ⟨S8192x2, .i32⟩
  | .hbm, ⟨28, _⟩ => ⟨S8192x2, .i32⟩
  | .hbm, ⟨29, _⟩ => ⟨S8192x2x1, .i32⟩
  | .hbm, ⟨30, _⟩ => ⟨S8192x2x1, .i32⟩
  | .hbm, ⟨31, _⟩ => ⟨S8192x2x2, .i32⟩
  | .hbm, ⟨32, _⟩ => ⟨S_, .f32⟩
  | .hbm, ⟨33, _⟩ => ⟨S8192x2, .f32⟩
  | .hbm, ⟨34, _⟩ => ⟨S8192x16, .f32⟩
  | .hbm, ⟨35, _⟩ => ⟨S8192x16, .f32⟩
  | .hbm, ⟨36, _⟩ => ⟨S_, .f32⟩
  | .hbm, ⟨37, _⟩ => ⟨S8192, .f32⟩
  | .hbm, ⟨38, _⟩ => ⟨S_, .f32⟩
  | .hbm, ⟨39, _⟩ => ⟨S8192, .f32⟩
  | .hbm, ⟨40, _⟩ => ⟨S8192, .f32⟩
  | .hbm, ⟨41, _⟩ => ⟨S8192x1, .f32⟩
  | .hbm, ⟨42, _⟩ => ⟨S8192x16, .f32⟩
  | .hbm, ⟨43, _⟩ => ⟨S8192x16, .f32⟩
  | .hbm, ⟨44, _⟩ => ⟨S8192x16, .f32⟩
  | .hbm, ⟨45, _⟩ => ⟨S_, .f32⟩
  | .hbm, ⟨46, _⟩ => ⟨S8192, .f32⟩
  | .hbm, ⟨47, _⟩ => ⟨S8192x1, .f32⟩
  | .hbm, ⟨48, _⟩ => ⟨S8192x16, .f32⟩
  | .hbm, ⟨49, _⟩ => ⟨S8192x16, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_values : Ref sig .tc := ⟨.hbm, 8, rfl⟩
abbrev main_indices : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]
-- ==== Proof.Gate.lean ====
/-
  The gate of one token over its sixteen logits, as the kernel's vector subcore computes it, and the same sixteen lanes at
  a time: what each straight-line part of a trip of the kernel's loop returns.
-/
module

public import proofs.«01_k».proof.Defs
public import proofs.«01_k».proof.Proof.Gen.KernelIdeal.Skeleton

@[expose] public section

set_option synthInstance.maxSize 4096

noncomputable section

namespace Cert.Proof.Gate

open Cert.KernelIdeal Cert.KernelIdeal.Gen
open Idealize.ShloMosaic Idealize.SL.Sem

variable {F : FTy → Type} [FloatOps F]

/-! ## One token -/

/-- Minus infinity, one and zero, as the kernel writes them. -/
def ninf : F .f32 := Scalar.ofBits .f32 0xFF800000#32
def one : F .f32 := Scalar.ofBits .f32 0x3F800000#32
def zero : F .f32 := Scalar.ofBits .f32 0x00000000#32

/-- The greatest of sixteen values, taken in order. -/
def top (v : Fin 16 → F .f32) : F .f32 :=
  FloatOps.maximumf (FloatOps.maximumf (FloatOps.maximumf (FloatOps.maximumf (FloatOps.maximumf (FloatOps.maximumf (FloatOps.maximumf (FloatOps.maximumf (FloatOps.maximumf (FloatOps.maximumf (FloatOps.maximumf (FloatOps.maximumf (FloatOps.maximumf (FloatOps.maximumf (FloatOps.maximumf (v 0) (v 1)) (v 2)) (v 3)) (v 4)) (v 5)) (v 6)) (v 7)) (v 8)) (v 9)) (v 10)) (v 11)) (v 12)) (v 13)) (v 14)) (v 15)
/-- The sum of sixteen values, taken in order. -/
def total (v : Fin 16 → F .f32) : F .f32 :=
  FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (v 0) (v 1)) (v 2)) (v 3)) (v 4)) (v 5)) (v 6)) (v 7)) (v 8)) (v 9)) (v 10)) (v 11)) (v 12)) (v 13)) (v 14)) (v 15)
/-- The least of sixteen words, taken in order. -/
def least (v : Fin 16 → BitVec 32) : BitVec 32 :=
  IntOp.minsi (IntOp.minsi (IntOp.minsi (IntOp.minsi (IntOp.minsi (IntOp.minsi (IntOp.minsi (IntOp.minsi (IntOp.minsi (IntOp.minsi (IntOp.minsi (IntOp.minsi (IntOp.minsi (IntOp.minsi (IntOp.minsi (v 0) (v 1)) (v 2)) (v 3)) (v 4)) (v 5)) (v 6)) (v 7)) (v 8)) (v 9)) (v 10)) (v 11)) (v 12)) (v 13)) (v 14)) (v 15)
/-- Expert `e`'s number where its value is `a`, sixteen elsewhere. -/
def pos (v : Fin 16 → F .f32) (a : F .f32) (e : Fin 16) : BitVec 32 :=
  Scalar.select (FloatOps.cmpf .oeq (v e) a) (BitVec.ofNat 32 e.val) 16#32
/-- The first expert of greatest value. -/
def first (v : Fin 16 → F .f32) : BitVec 32 := least (pos v (top v))
/-- The values with the first expert of greatest value put at minus infinity. -/
def rest (v : Fin 16 → F .f32) (e : Fin 16) : F .f32 :=
  Scalar.select (IntOp.cmpi .eq (first v) (BitVec.ofNat 32 e.val)) ninf (v e)
/-- The first expert of greatest value among the rest. -/
def second (v : Fin 16 → F .f32) : BitVec 32 := least (pos (rest v) (top (rest v)))
/-- One at the two chosen experts, zero elsewhere. -/
def gate (v : Fin 16 → F .f32) (e : Fin 16) : F .f32 :=
  Scalar.select (IntOp.ori (IntOp.cmpi .eq (first v) (BitVec.ofNat 32 e.val)) (IntOp.cmpi .eq (second v) (BitVec.ofNat 32 e.val))) one zero
/-- The values masked by the gate. -/
def sparse (v : Fin 16 → F .f32) (e : Fin 16) : F .f32 := FloatOps.mulf (gate v e) (v e)
/-- The exponential of each masked value less the greatest. -/
def expo (v : Fin 16 → F .f32) (e : Fin 16) : F .f32 := FloatOps.exp (FloatOps.subf (sparse v e) (top (sparse v)))
/-- The reciprocal of the exponentials' sum. -/
def inv (v : Fin 16 → F .f32) : F .f32 := FloatOps.divf one (total (expo v))
/-- The softmax of the masked values. -/
def weight (v : Fin 16 → F .f32) (e : Fin 16) : F .f32 := FloatOps.mulf (expo v e) (inv v)

/-! ## Sixteen tokens at once: lane by lane -/

def vTop (vs : Fin 16 → Vec F S16 .f32) : FVec F S16 .f32 := fun x => top fun e => vs e x
def vPeak (vs : Fin 16 → Vec F S16 .f32) : FVec F S16 .f32 := fun x => (fun v : Fin 16 → F .f32 => FloatOps.maximumf (FloatOps.maximumf (FloatOps.maximumf (FloatOps.maximumf (FloatOps.maximumf (FloatOps.maximumf (FloatOps.maximumf (FloatOps.maximumf (FloatOps.maximumf (FloatOps.maximumf (FloatOps.maximumf (v 0) (v 1)) (v 2)) (v 3)) (v 4)) (v 5)) (v 6)) (v 7)) (v 8)) (v 9)) (v 10)) (v 11)) fun e => vs e x
def vPeak10 (vs : Fin 16 → Vec F S16 .f32) : FVec F S16 .f32 := fun x => (fun v : Fin 16 → F .f32 => FloatOps.maximumf (FloatOps.maximumf (FloatOps.maximumf (FloatOps.maximumf (FloatOps.maximumf (FloatOps.maximumf (FloatOps.maximumf (FloatOps.maximumf (FloatOps.maximumf (v 0) (v 1)) (v 2)) (v 3)) (v 4)) (v 5)) (v 6)) (v 7)) (v 8)) (v 9)) fun e => vs e x
def vPos (vs : Fin 16 → Vec F S16 .f32) (a : FVec F S16 .f32) (e : Fin 16) : IVec S16 32 := fun x => pos (fun e => vs e x) (a x) e
def vFirst (vs : Fin 16 → Vec F S16 .f32) : IVec S16 32 := fun x => first fun e => vs e x
def vRest (vs : Fin 16 → Vec F S16 .f32) (e : Fin 16) : FVec F S16 .f32 := fun x => rest (fun e => vs e x) e
def vSecond (vs : Fin 16 → Vec F S16 .f32) : IVec S16 32 := fun x => second fun e => vs e x
def vGate (vs : Fin 16 → Vec F S16 .f32) (e : Fin 16) : FVec F S16 .f32 := fun x => gate (fun e => vs e x) e
def vSparse (vs : Fin 16 → Vec F S16 .f32) (e : Fin 16) : FVec F S16 .f32 := fun x => sparse (fun e => vs e x) e
def vExpo (vs : Fin 16 → Vec F S16 .f32) (e : Fin 16) : FVec F S16 .f32 := fun x => expo (fun e => vs e x) e
def vInv (vs : Fin 16 → Vec F S16 .f32) : FVec F S16 .f32 := fun x => inv fun e => vs e x
def vWeight (vs : Fin 16 → Vec F S16 .f32) (e : Fin 16) : FVec F S16 .f32 := fun x => weight (fun e => vs e x) e

/-! ## The straight-line parts of a trip -/

section Parts

variable (i : grid1.Coords) (arg2 : Memref sig .scVector .hbm S16x8192 .f32) (harg2 : arg2.IsWhole) (arg3 : Memref sig .scVector .hbm S131072 .f32) (harg3 : arg3.IsWhole) (arg4 : Memref sig .scVector .hbm S131072 .f32) (harg4 : arg4.IsWhole) (arg5 : Memref sig .scVector .vmem S16x256 .f32) (harg5 : arg5.IsWhole) (arg6 : Memref sig .scVector .vmem S4096 .f32) (harg6 : arg6.IsWhole) (arg7 : Memref sig .scVector .vmem S4096 .f32) (harg7 : arg7.IsWhole) (v9_r0 : DmaSems sig S_) (v9_r1 : DmaSems sig S_) (v9_r2 : DmaSems sig S_)

/-- Part 3 of a trip, from the sixteen vectors the trip read. -/
theorem part3_val (vs : Fin 16 → Vec F S16 .f32) :
    k1_part3 (F := F) i arg2 harg2 arg3 harg3 arg4 harg4 arg5 harg5 arg6 harg6 arg7 harg7 v9_r0 v9_r1 v9_r2 (vs 4) (vs 5) (vs 6) (vs 7) (vs 8) (vs 9) (vs 10) (vs 11) (vs 12) (vs 13) (vTop vs) (cmpf .oeq (vs 3) (vTop vs)) 16#32 (broadcast S16 3#32)
      = pure ⟨vPos vs (vTop vs) 3, vPos vs (vTop vs) 4, vPos vs (vTop vs) 5, vPos vs (vTop vs) 6, vPos vs (vTop vs) 7, vPos vs (vTop vs) 8, vPos vs (vTop vs) 9, vPos vs (vTop vs) 10, vPos vs (vTop vs) 11, vPos vs (vTop vs) 12, cmpf .oeq (vs 13) (vTop vs), 16#32, broadcast S16 13#32⟩ := by
  rw [k1_part3_eq_skeleton]; rfl

/-- Part 4 of a trip, from the sixteen vectors the trip read. -/
theorem part4_val (vs : Fin 16 → Vec F S16 .f32) :
    k1_part4 (F := F) i arg2 harg2 arg3 harg3 arg4 harg4 arg5 harg5 arg6 harg6 arg7 harg7 v9_r0 v9_r1 v9_r2 ninf (vs 0) (vs 1) (vs 2) (vs 3) (vs 4) (vs 5) (vs 14) (vs 15) (vTop vs) (vPos vs (vTop vs) 0) (vPos vs (vTop vs) 1) (vPos vs (vTop vs) 2) (vPos vs (vTop vs) 3) (vPos vs (vTop vs) 4) (vPos vs (vTop vs) 5) (vPos vs (vTop vs) 6) (vPos vs (vTop vs) 7) (vPos vs (vTop vs) 8) (vPos vs (vTop vs) 9) (vPos vs (vTop vs) 10) (vPos vs (vTop vs) 11) (vPos vs (vTop vs) 12) (cmpf .oeq (vs 13) (vTop vs)) 16#32 (broadcast S16 13#32)
      = pure ⟨vFirst vs, vRest vs 0, vRest vs 1, vRest vs 2, vRest vs 3, vRest vs 4, vRest vs 5, 6#32⟩ := by
  rw [k1_part4_eq_skeleton]; rfl

/-- Part 5 of a trip, from the sixteen vectors the trip read. -/
theorem part5_val (vs : Fin 16 → Vec F S16 .f32) :
    k1_part5 (F := F) i arg2 harg2 arg3 harg3 arg4 harg4 arg5 harg5 arg6 harg6 arg7 harg7 v9_r0 v9_r1 v9_r2 ninf (vs 6) (vs 7) (vs 8) (vs 9) (vs 10) (vs 11) (vs 12) (vs 13) (vs 14) (vs 15) (vFirst vs) (vRest vs 0) (vRest vs 1) (vRest vs 2) (vRest vs 3) (vRest vs 4) (vRest vs 5) 6#32
      = pure ⟨vRest vs 6, vRest vs 7, vRest vs 8, vRest vs 9, vRest vs 10, vRest vs 11, vRest vs 12, vRest vs 13, vRest vs 14, vRest vs 15, vPeak (vRest vs)⟩ := by
  rw [k1_part5_eq_skeleton]; rfl

/-- Part 6 of a trip, from the sixteen vectors the trip read. -/
theorem part6_val (vs : Fin 16 → Vec F S16 .f32) :
    k1_part6 (F := F) i arg2 harg2 arg3 harg3 arg4 harg4 arg5 harg5 arg6 harg6 arg7 harg7 v9_r0 v9_r1 v9_r2 (vRest vs 0) (vRest vs 1) (vRest vs 2) (vRest vs 3) (vRest vs 4) (vRest vs 5) (vRest vs 6) (vRest vs 7) (vRest vs 8) (vRest vs 9) (vRest vs 12) (vRest vs 13) (vRest vs 14) (vRest vs 15) (vPeak (vRest vs))
      = pure ⟨vTop (vRest vs), vPos (vRest vs) (vTop (vRest vs)) 0, vPos (vRest vs) (vTop (vRest vs)) 1, vPos (vRest vs) (vTop (vRest vs)) 2, vPos (vRest vs) (vTop (vRest vs)) 3, vPos (vRest vs) (vTop (vRest vs)) 4, vPos (vRest vs) (vTop (vRest vs)) 5, vPos (vRest vs) (vTop (vRest vs)) 6, vPos (vRest vs) (vTop (vRest vs)) 7, vPos (vRest vs) (vTop (vRest vs)) 8, cmpf .oeq (vRest vs 9) (vTop (vRest vs)), 9#32⟩ := by
  rw [k1_part6_eq_skeleton]; rfl

/-- Part 7 of a trip, from the sixteen vectors the trip read. -/
theorem part7_val (vs : Fin 16 → Vec F S16 .f32) :
    k1_part7 (F := F) i arg2 harg2 arg3 harg3 arg4 harg4 arg5 harg5 arg6 harg6 arg7 harg7 v9_r0 v9_r1 v9_r2 (vFirst vs) (vRest vs 10) (vRest vs 11) (vRest vs 12) (vRest vs 13) (vRest vs 14) (vRest vs 15) (vTop (vRest vs)) (vPos (vRest vs) (vTop (vRest vs)) 0) (vPos (vRest vs) (vTop (vRest vs)) 1) (vPos (vRest vs) (vTop (vRest vs)) 2) (vPos (vRest vs) (vTop (vRest vs)) 3) (vPos (vRest vs) (vTop (vRest vs)) 4) (vPos (vRest vs) (vTop (vRest vs)) 5) (vPos (vRest vs) (vTop (vRest vs)) 6) (vPos (vRest vs) (vTop (vRest vs)) 7) (vPos (vRest vs) (vTop (vRest vs)) 8) (cmpf .oeq (vRest vs 9) (vTop (vRest vs))) 9#32
      = pure ⟨vSecond vs, cmpi .eq (vFirst vs) (broadcast S16 0#32), broadcast S16 0#32⟩ := by
  rw [k1_part7_eq_skeleton]; rfl

/-- Part 8 of a trip, from the sixteen vectors the trip read. -/
theorem part8_val (vs : Fin 16 → Vec F S16 .f32) :
    k1_part8 (F := F) i arg2 harg2 arg3 harg3 arg4 harg4 arg5 harg5 arg6 harg6 arg7 harg7 v9_r0 v9_r1 v9_r2 one zero (vFirst vs) (vSecond vs) (cmpi .eq (vFirst vs) (broadcast S16 0#32)) (broadcast S16 0#32)
      = pure ⟨vGate vs 0, vGate vs 1, vGate vs 2, vGate vs 3, vGate vs 4, vGate vs 5, cmpi .eq (vFirst vs) (broadcast S16 6#32), broadcast S16 6#32⟩ := by
  rw [k1_part8_eq_skeleton]; rfl

/-- Part 9 of a trip, from the sixteen vectors the trip read. -/
theorem part9_val (vs : Fin 16 → Vec F S16 .f32) :
    k1_part9 (F := F) i arg2 harg2 arg3 harg3 arg4 harg4 arg5 harg5 arg6 harg6 arg7 harg7 v9_r0 v9_r1 v9_r2 one zero (vFirst vs) (vSecond vs) (cmpi .eq (vFirst vs) (broadcast S16 6#32)) (broadcast S16 6#32)
      = pure ⟨vGate vs 6, vGate vs 7, vGate vs 8, vGate vs 9, vGate vs 10, vGate vs 11, cmpi .eq (vFirst vs) (broadcast S16 12#32), broadcast S16 12#32⟩ := by
  rw [k1_part9_eq_skeleton]; rfl

/-- Part 10 of a trip, from the sixteen vectors the trip read. -/
theorem part10_val (vs : Fin 16 → Vec F S16 .f32) :
    k1_part10 (F := F) i arg2 harg2 arg3 harg3 arg4 harg4 arg5 harg5 arg6 harg6 arg7 harg7 v9_r0 v9_r1 v9_r2 one zero (vs 0) (vs 1) (vs 2) (vs 3) (vs 4) (vs 5) (vs 6) (vs 7) (vs 8) (vs 9) (vs 10) (vs 11) (vs 12) (vs 13) (vs 14) (vs 15) (vFirst vs) (vSecond vs) (vGate vs 0) (vGate vs 1) (vGate vs 2) (vGate vs 3) (vGate vs 4) (vGate vs 5) (vGate vs 6) (vGate vs 7) (vGate vs 8) (vGate vs 9) (vGate vs 10) (vGate vs 11) (cmpi .eq (vFirst vs) (broadcast S16 12#32)) (broadcast S16 12#32)
      = pure ⟨vGate vs 12, vGate vs 13, vGate vs 14, vGate vs 15, vSparse vs 0, vSparse vs 1, vSparse vs 2, vSparse vs 3, vSparse vs 4, vSparse vs 5, vSparse vs 6, vSparse vs 7, vSparse vs 8, vSparse vs 9, vSparse vs 10, vSparse vs 11, vSparse vs 12, vSparse vs 13, vSparse vs 14, vSparse vs 15, vPeak10 (vSparse vs)⟩ := by
  rw [k1_part10_eq_skeleton]; rfl

/-- Part 11 of a trip, from the sixteen vectors the trip read. -/
theorem part11_val (v5 : IVec S16 32) (arg8 : BitVec 32) (vs : Fin 16 → Vec F S16 .f32) :
    k1_part11 (F := F) i arg2 harg2 arg3 harg3 arg4 harg4 arg5 harg5 arg6 harg6 arg7 harg7 v9_r0 v9_r1 v9_r2 v5 one arg8 (vSparse vs 0) (vSparse vs 1) (vSparse vs 2) (vSparse vs 3) (vSparse vs 4) (vSparse vs 5) (vSparse vs 6) (vSparse vs 7) (vSparse vs 8) (vSparse vs 9) (vSparse vs 10) (vSparse vs 11) (vSparse vs 12) (vSparse vs 13) (vSparse vs 14) (vSparse vs 15) (vPeak10 (vSparse vs))
      = pure ⟨vExpo vs 0, vExpo vs 1, vExpo vs 2, vExpo vs 3, vExpo vs 4, vExpo vs 5, vExpo vs 6, vExpo vs 7, vExpo vs 8, vExpo vs 9, vExpo vs 10, vExpo vs 11, vExpo vs 12, vExpo vs 13, vExpo vs 14, vExpo vs 15, vInv vs, k1_pay125 v5 arg8, 0#32⟩ := by
  rw [k1_part11_eq_skeleton]; rfl

end Parts

end Cert.Proof.Gate

end
-- ==== Proof.Setup.lean ====
/-
  The program as the launch theorem sees it, and the ghost state its proof runs over: the handshakes' rounds, the pipeline's
  rounds and the transfers' counters.
-/
module

public import proofs.«01_k».proof.Proof.Gate
public import proofs.«01_k».proof.Proof.Gen.KernelIdeal.Launch
public import proofs.«01_k».proof.Proof.Gen.KernelIdeal.Points
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.Proof.Gate

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- The labels of the pipeline's and the kernel's functions. -/
abbrev ΛP : Labels := Pipeline.Sig Λ₀ (Fin 1) fun p => (pcfgs (F := F) p).Adm
/-- The SparseCore calls of the program. -/
abbrev K : SparseCore.Cfg τ sig (ΛP (F := F)) 1 := sc (F := F)
theorem nCore_two : (K (F := F)).nCore 0 = 2 := rfl
theorem nSub_sixteen : (K (F := F)).nSub 0 = 16 := rfl
/-- The functions below the SparseCore's own. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The four launch semaphores are distinct and no task's own, and nothing a SparseCore owns is shared by its tasks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, the pipeline's rounds, and with the transfers' counters all of the ghost state. -/
abbrev UH : Type := URounds (GSem nD τ sig) ℕ
abbrev UP : Type := URounds (GSem nD τ sig) Unit
abbrev UU : Type := UH × (UP × Counters)

local notation "𝕄" => MT nD τ sig (HIx 1) (Elt F) ℕ UU ℕ

/-- Where the handshakes' rounds sit. -/
abbrev EH : Emb UH (MT nD τ sig (HIx 1) (Elt F) ℕ UU ℕ) := embL
/-- Where the pipeline's rounds sit. -/
def EP : Emb UP (MT nD τ sig (HIx 1) (Elt F) ℕ UU ℕ) :=
  ((Emb.inl : Emb UP (UP × Counters)).trans (Emb.inr : Emb (UP × Counters) UU)).trans
    (uEmb (nD := nD) (τ := τ) (sig := sig) (Ix := HIx 1) (Val := Elt F) (Name := ℕ) (U := UU) (Lvl := ℕ)).toEmb
instance EP_landsIn : (EP (F := F)).LandsIn (upEmb : UEmb _ 𝕄) := by unfold EP; infer_instance

end Cert.Proof.Gate

end
-- ==== Proof.Trip.lean ====
/-
  One trip of the vector subcore's loop: sixteen loads, the gate of sixteen tokens, thirty-two indexed stores.
-/
module

public import proofs.«01_k».proof.Proof.Setup

@[expose] public section

noncomputable section

namespace Cert.Proof.Gate

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## An indexed store's value -/

/-- Writes taken in order, at a place where every write that hits it writes `c` and one does. -/
theorem foldl_put_hit {α β γ : Type} (key : α → β → Prop) [∀ a b, Decidable (key a b)] (val : α → γ) (j : β) (c : γ) :
    ∀ (l : List α) (f : β → γ), (∀ a ∈ l, key a j → val a = c) → (∃ a ∈ l, key a j) →
      l.foldl (fun g a => fun j => if key a j then val a else g j) f j = c := by
  intro l
  induction l using List.reverseRecOn with
  | nil => intro f _ h; obtain ⟨a, ha, _⟩ := h; cases ha
  | append_singleton l a ih =>
    intro f h1 h2
    rw [List.foldl_append]
    simp only [List.foldl_cons, List.foldl_nil]
    by_cases hk : key a j
    · rw [if_pos hk]; exact h1 a (by simp) hk
    · rw [if_neg hk]
      refine ih f (fun b hb => h1 b (by simp [hb])) ?_
      obtain ⟨b, hb, hkb⟩ := h2
      rcases List.mem_append.mp hb with hb | hb
      · exact ⟨b, hb, hkb⟩
      · rw [List.mem_singleton.mp hb] at hkb; exact absurd hkb hk

/-- Writes taken in order, at a place none of them hits. -/
theorem foldl_put_miss {α β γ : Type} (key : α → β → Prop) [∀ a b, Decidable (key a b)] (val : α → γ) (j : β) :
    ∀ (l : List α) (f : β → γ), (∀ a ∈ l, ¬ key a j) →
      l.foldl (fun g a => fun j => if key a j then val a else g j) f j = f j := by
  intro l
  induction l with
  | nil => intro f _; rfl
  | cons a l ih =>
    intro f h
    rw [List.foldl_cons, ih _ fun b hb => h b (by simp [hb]), if_neg (h a (by simp))]

/-! ## What the two result rows hold part of the way through -/

/-- The token and the expert of a word of a result row. -/
def tokOf (j : S4096.Idx) : Fin 256 := ⟨(j 0).val / 16, by have := (j 0).isLt; change (j 0).val < 4096 at this; omega⟩
def expOf (j : S4096.Idx) : Fin 16 := ⟨(j 0).val % 16, Nat.mod_lt _ (by decide)⟩

/-- The row `f` with the words of the first `t` trips, and of the next trip's first `e` experts, at `G`. -/
def stage (G : Fin 256 → Fin 16 → F .f32) (f : S4096.Idx → F .f32) (t e : ℕ) : S4096.Idx → F .f32 :=
  fun j => if (j 0).val / 256 < t ∨ ((j 0).val / 256 = t ∧ (j 0).val % 16 < e) then G (tokOf j) (expOf j) else f j

theorem stage_next (G : Fin 256 → Fin 16 → F .f32) (f : S4096.Idx → F .f32) (t : ℕ) : stage G f t 16 = stage G f (t + 1) 0 := by
  funext j; unfold stage
  have h : ((j 0).val / 256 < t ∨ ((j 0).val / 256 = t ∧ (j 0).val % 16 < 16)) ↔ ((j 0).val / 256 < t + 1 ∨ ((j 0).val / 256 = t + 1 ∧ (j 0).val % 16 < 0)) := by
    have := Nat.mod_lt (j 0).val (show 0 < 16 by decide); omega
  simp only [h]
theorem stage_zero (G : Fin 256 → Fin 16 → F .f32) (f : S4096.Idx → F .f32) : stage G f 0 0 = f := by
  funext j; unfold stage; rw [if_neg (by omega)]
theorem stage_end (G : Fin 256 → Fin 16 → F .f32) (f : S4096.Idx → F .f32) : stage G f 16 0 = fun j => G (tokOf j) (expOf j) := by
  funext j; unfold stage; rw [if_pos]; have := (j 0).isLt; change (j 0).val < 4096 at this; omega

/-- The words a trip's store for expert `e` names. -/
def idxs (t e : ℕ) : IVec S16 32 := fun x => BitVec.ofNat 32 (256 * t + 16 * (x 0).val + e)

/-- Token `x` of trip `t`. -/
def tokAt (t : Fin 16) (x : S16.Idx) : Fin 256 := ⟨16 * t.val + (x 0).val, by have := (x 0).isLt; change (x 0).val < 16 at this; omega⟩

theorem idxs_toNat (t : Fin 16) (e : Fin 16) (x : S16.Idx) : (idxs t.val e.val x).toNat = 256 * t.val + 16 * (x 0).val + e.val := by
  have := (x 0).isLt; change (x 0).val < 16 at this
  simp only [idxs, BitVec.toNat_ofNat]; omega

/-- Each of those words is one of the row's. -/
theorem idxs_inb (t : Fin 16) (e : Fin 16) : ∀ (a : Fin S4096.rank) x, ((![idxs t.val e.val] : Fin 1 → IVec S16 32) a x).toNat < S4096.size a := by
  intro a x
  obtain rfl : a = 0 := Subsingleton.elim _ _
  show (idxs t.val e.val x).toNat < 4096
  rw [idxs_toNat]
  have := (x 0).isLt; change (x 0).val < 16 at this; omega

/-- The store for expert `e` of trip `t` takes the row one expert further. -/
theorem storeIdx_stage (G : Fin 256 → Fin 16 → F .f32) (f : S4096.Idx → F .f32) (t e : Fin 16) [FloatOps F] (v : Vec F S16 .f32)
    (hv : ∀ x, v x = G (tokAt t x) e) (h : ∀ (a : Fin S4096.rank) x, ((![idxs t.val e.val] : Fin 1 → IVec S16 32) a x).toNat < S4096.size a) :
    storeIdx (F := F) (s := S4096) (e := .f32) (d := ![16]) (stage G f t.val e.val) ![idxs t.val e.val] v (fun _ => 1#1) false h = stage G f t.val (e.val + 1) := by
  funext j
  have hj := (j 0).isLt; change (j 0).val < 4096 at hj
  unfold storeIdx
  simp only [show ((1#1 : BitVec 1) = 1) = True from by decide, if_true, Bool.false_eq_true, if_false]
  have hkey : ∀ k : Fin 16, (∀ a : Fin S4096.rank, (j a).val = ((idxAt (s := S4096) (t := S16) ![idxs t.val e.val] h (Shape.ofLane k)) a).val) ↔ (j 0).val = 256 * t.val + 16 * k.val + e.val := by
    intro k
    have e0 : ((idxAt (s := S4096) (t := S16) ![idxs t.val e.val] h (Shape.ofLane k)) 0).val = 256 * t.val + 16 * k.val + e.val := idxs_toNat t e (Shape.ofLane k)
    constructor
    · intro hh; rw [hh 0, e0]
    · intro hh a
      obtain rfl : a = 0 := Subsingleton.elim _ _
      rw [e0, hh]
  by_cases hit : (j 0).val / 256 = t.val ∧ (j 0).val % 16 = e.val
  · have hk : (j 0).val / 16 % 16 < 16 := Nat.mod_lt _ (by decide)
    refine (foldl_put_hit (fun (k : Fin 16) (j : S4096.Idx) => ∀ a, (j a).val = ((idxAt (s := S4096) (t := S16) ![idxs t.val e.val] h (Shape.ofLane k)) a).val) (fun k => v (Shape.ofLane k)) j (G (tokOf j) (expOf j)) _ _ ?_ ?_).trans ?_
    · intro k _ hkk
      have hkk := (hkey k).mp hkk
      rw [hv]
      congr 1
      · apply Fin.ext; show 16 * t.val + k.val = (j 0).val / 16; omega
      · apply Fin.ext; show e.val = (j 0).val % 16; omega
    · exact ⟨⟨(j 0).val / 16 % 16, hk⟩, List.mem_finRange _, (hkey _).mpr (by show (j 0).val = 256 * t.val + 16 * ((j 0).val / 16 % 16) + e.val; omega)⟩
    · unfold stage; rw [if_pos]; omega
  · refine (foldl_put_miss (fun (k : Fin 16) (j : S4096.Idx) => ∀ a, (j a).val = ((idxAt (s := S4096) (t := S16) ![idxs t.val e.val] h (Shape.ofLane k)) a).val) (fun k => v (Shape.ofLane k)) j _ _ ?_).trans ?_
    · intro k _ hkk
      have hkk := (hkey k).mp hkk
      have := k.isLt; apply hit; constructor <;> omega
    · unfold stage
      have : ((j 0).val / 256 < t.val ∨ ((j 0).val / 256 = t.val ∧ (j 0).val % 16 < e.val)) ↔ ((j 0).val / 256 < t.val ∨ ((j 0).val / 256 = t.val ∧ (j 0).val % 16 < e.val + 1)) := by omega
      simp only [this]

end Cert.Proof.Gate

end
-- ==== Proof.Tile.lean ====
/-
  One trip of the vector subcore's loop, run: sixteen loads, the gate of sixteen tokens, thirty-two indexed stores.
-/
module

public import proofs.«01_k».proof.Proof.Trip

@[expose] public section

noncomputable section

namespace Cert.Proof.Gate

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "lg" => (Memref.whole Cert.KernelIdeal.cc1_scratch0 : Memref Cert.KernelIdeal.sig Kind.scVector Space.vmem Cert.KernelIdeal.S16x256 EltTy.f32)
local notation "mk" => (Memref.whole Cert.KernelIdeal.cc1_scratch1 : Memref Cert.KernelIdeal.sig Kind.scVector Space.vmem Cert.KernelIdeal.S4096 EltTy.f32)
local notation "wt" => (Memref.whole Cert.KernelIdeal.cc1_scratch2 : Memref Cert.KernelIdeal.sig Kind.scVector Space.vmem Cert.KernelIdeal.S4096 EltTy.f32)

/-! ## What a trip reads -/

/-- Entry `(e, n)` of the sixteen rows of logits. -/
def at2 (e : Fin 16) (n : Fin 256) : S16x256.Idx := fun | 0 => e | 1 => n
/-- The logits of token `n`. -/
def col (f : S16x256.Idx → F .f32) (n : Fin 256) (e : Fin 16) : F .f32 := f (at2 e n)
/-- Expert `e`'s logits of the sixteen tokens of trip `t`. -/
def vecAt (f : S16x256.Idx → F .f32) (t : Fin 16) (e : Fin 16) : Vec F S16 .f32 := fun x => col f (tokAt t x) e

theorem trips_eq : k1_t1_loop.trips = 16 := by decide +kernel
/-- A trip's number among the sixteen. -/
abbrev tt (t : Fin k1_t1_loop.trips) : Fin 16 := Fin.cast trips_eq t

theorem ld_val (f : S16x256.Idx → F .f32) (t e : Fin 16) (off : Fin 2 → ℕ) (hoff : off = ![e.val, 16 * t.val])
    (inb : ∀ a, off a + S1x16.size a ≤ S16x256.size a) (h : S1x16.ShapeCasts S16) :
    shapeCast S16 (View.readAt (Elt F) (lg).view (Rect.unit (s := S16x256) off S1x16.size inb).toLoadRect f) h = vecAt f t e := by
  subst hoff
  funext x
  have hx := (x 0).isLt; change (x 0).val < 16 at hx
  show View.readAt (Elt F) (lg).view (Rect.unit (s := S16x256) ![e.val, 16 * t.val] S1x16.size inb).toLoadRect f (Shape.reshapeEquiv h x) = _
  have hr : Shape.reshapeEquiv h x = (fun | 0 => ⟨0, by decide⟩ | 1 => ⟨(x 0).val, hx⟩ : S1x16.Idx) := by
    refine Shape.reshapeEquiv_eq_of_rowMajor _ ?_
    simp only [Shape.rowMajor_val_two, Shape.rowMajor_val_one]
    show 0 * 16 + (x 0).val = (x 0).val
    omega
  rw [hr]
  show f ((Rect.unit (s := S16x256) ![e.val, 16 * t.val] S1x16.size inb).toLoadRect.idx _) = f (at2 e (tokAt t x))
  congr 1
  funext a
  apply Fin.ext
  rw [LoadRect.idx_apply]
  match a with
  | 0 => show e.val + 1 * 0 = e.val; omega
  | 1 => show 16 * t.val + 1 * (x 0).val = 16 * t.val + (x 0).val; omega

section Trip

variable (d : Dev nD) (L : grid1.Coords)

/-- The vector subcore of a task. -/
abbrev cV (L : grid1.Coords) : Fin τ.nSC := (L 0).castLE hcore1
abbrev jV (L : grid1.Coords) : Fin τ.nSub := (L 1).castLE hsub1

variable (aL : Memref sig .scVector .hbm S16x8192 .f32) (hL : aL.IsWhole) (aM : Memref sig .scVector .hbm S131072 .f32) (hM : aM.IsWhole)
  (aW : Memref sig .scVector .hbm S131072 .f32) (hW : aW.IsWhole) (s0 s1 s2 : DmaSems sig S_)

/-- The subcore's rows of logits at `f`. -/
abbrev lgPts (f : S16x256.Idx → F .f32) : sProp 𝕄 := (lg).view.loc (V d (cV L) (jV L)) ↦{fullShare} f

/-- A result row at stage `(t, e)`. -/
def rowPts (m : Memref sig .scVector .vmem S4096 .f32) (G : Fin 256 → Fin 16 → F .f32) (f₀ : S4096.Idx → F .f32) (t e : ℕ) : sProp 𝕄 :=
  iprop(∃ f : Buf (Elt F) ((m.access (.whole S4096)).loc (V d (cV L) (jV L))), ⌜(m.access (.whole S4096)).read (Elt F) f = stage G f₀ t e⌝
    ∗ (m.access (.whole S4096)).loc (V d (cV L) (jV L)) ↦[(m.access (.whole S4096)).set]{fullShare} f)

/-- The store for expert `n` of trip `t`, its check first. -/
theorem wp_put (m : Memref sig .scVector .vmem S4096 .f32) (G : Fin 256 → Fin 16 → F .f32) (f₀ : S4096.Idx → F .f32) (t : Fin 16) (n n' : ℕ) (hn : n < 16) (hn' : n' = n + 1)
    {v : Vec F S16 .f32} (hv : ∀ x, v x = G (tokAt t x) ⟨n, hn⟩) {w : IVec S16 32} (hw : w = idxs t.val n)
    {P : Prop} {dP : Decidable P} (hP : P) {hin : PLift P → ∀ (a : Fin S4096.rank) x, ((![w] : Fin 1 → IVec S16 32) a x).toNat < S4096.size a}
    {hs : (m.access (.whole S4096)).Stores Finset.univ}
    {α : Type} {k : PUnit → Prog (TpuEff nD τ sig (Elt F) Λ₀ (V d (cV L) (jV L)).2) α} {Q : α → sProp 𝕄} :
    rowPts d L m G f₀ t.val n ⊢ iprop((rowPts d L m G f₀ t.val n' -∗ wp frame (wpE (defs₀ (F := F)) 𝒱₀ (V d (cV L) (jV L)) none) Set.univ (k ⟨⟩) Q)
      -∗ wp frame (wpE (defs₀ (F := F)) 𝒱₀ (V d (cV L) (jV L)) none) Set.univ
          (.op (.assume P dP) fun h => (SparseCore.vectorStoreIdx m ![w] v (fun _ => 1#1) false (hin h) hs) >>= k) Q) := by
  subst hw hn'
  unfold rowPts
  iintro ⟨%f, %hf, H⟩ Hk
  rw [wp_assume_of _ _ _ _ hP]
  iapply (SparseCore.wp_vectorStoreIdx 𝒱₀ (V d (cV L) (jV L)) none Set.univ (base := m)) $$ H
  iintro H
  iapply Hk
  iexists _; isplitr
  swap; · iexact H
  ipureintro
  rw [View.read_write_univ, hf]
  exact storeIdx_stage G f₀ t ⟨n, hn⟩ v hv _

/-- The word a trip's store names, from the loop's counter and the lane. -/
theorem idx_eq (t : Fin 16) (e : Fin 16) (w : BitVec 32) (hw : w = BitVec.ofNat 32 e.val) :
    addi (k1_pay125 k1_pay1 (Scf.iv 0#32 1#32 t.val)) (broadcast S16 w) = idxs t.val e.val := by
  subst hw
  funext x
  show ((0#32 + BitVec.ofNat 32 t.val * 1#32) * 256#32 + BitVec.ofNat 32 (0 * 16 + (x 0).val) * 16#32) + BitVec.ofNat 32 e.val = BitVec.ofNat 32 (256 * t.val + 16 * (x 0).val + e.val)
  apply BitVec.eq_of_toNat_eq
  have hx := (x 0).isLt; change (x 0).val < 16 at hx
  have := t.isLt; have := e.isLt
  simp only [BitVec.toNat_add, BitVec.toNat_mul, BitVec.toNat_ofNat]
  omega

theorem idx_chk (t : Fin 16) (n : ℕ) (hn : n < 16) {w : IVec S16 32} (hw : w = idxs t.val n) :
    ∀ (a : Fin S4096.rank) x, ((![w] : Fin 1 → IVec S16 32) a x).toNat < S4096.size a := by
  subst hw; exact idxs_inb t ⟨n, hn⟩

variable (t : Fin k1_t1_loop.trips) (f : S16x256.Idx → F .f32)

/-- The first eleven loads of a trip. -/
theorem wp_part1 {α : Type} {kk : _ → Prog (TpuEff nD τ sig (Elt F) Λ₀ (V d (cV L) (jV L)).2) α} {Q : α → sProp 𝕄} :
    lgPts d L f ⊢ iprop((∀ v9, lgPts d L f -∗ wp frame (wpE (defs₀ (F := F)) 𝒱₀ (V d (cV L) (jV L)) none) Set.univ (kk ⟨Scf.iv 0#32 1#32 t.val, v9, vecAt f (tt t) 0, vecAt f (tt t) 1, vecAt f (tt t) 2, vecAt f (tt t) 3, vecAt f (tt t) 4, vecAt f (tt t) 5, vecAt f (tt t) 6, vecAt f (tt t) 7, vecAt f (tt t) 8, vecAt f (tt t) 9, vecAt f (tt t) 10⟩) Q)
      -∗ wp frame (wpE (defs₀ (F := F)) 𝒱₀ (V d (cV L) (jV L)) none) Set.univ (k1_part1 (F := F) L aL hL aM hM aW hW lg (Memref.isWhole_whole _) mk (Memref.isWhole_whole _) wt (Memref.isWhole_whole _) s0 s1 s2 0#32 1#32 t >>= kk) Q) := by
  rw [k1_part1_eq_skeleton]; unfold k1_part1_skel
  simp only [Prog.lift, Prog.bind_op, Prog.bind_ret, Prog.pure_eq_ret]
  have h0 : k1_pay4 (View.readAt (Elt F) (lg).view (Rect.unit (s := S16x256) (k1_off2 t) S1x16.size (k1_off2_inb t)).toLoadRect f) = vecAt f (tt t) 0 := ld_val f (tt t) 0 _ (k1_off2_eq t) _ _
  have h1 : k1_pay5 (View.readAt (Elt F) (lg).view (Rect.unit (s := S16x256) (k1_off3 t) S1x16.size (k1_off3_inb t)).toLoadRect f) = vecAt f (tt t) 1 := ld_val f (tt t) 1 _ (k1_off3_eq t) _ _
  have h2 : k1_pay6 (View.readAt (Elt F) (lg).view (Rect.unit (s := S16x256) (k1_off4 t) S1x16.size (k1_off4_inb t)).toLoadRect f) = vecAt f (tt t) 2 := ld_val f (tt t) 2 _ (k1_off4_eq t) _ _
  have h3 : k1_pay7 (View.readAt (Elt F) (lg).view (Rect.unit (s := S16x256) (k1_off5 t) S1x16.size (k1_off5_inb t)).toLoadRect f) = vecAt f (tt t) 3 := ld_val f (tt t) 3 _ (k1_off5_eq t) _ _
  have h4 : k1_pay8 (View.readAt (Elt F) (lg).view (Rect.unit (s := S16x256) (k1_off6 t) S1x16.size (k1_off6_inb t)).toLoadRect f) = vecAt f (tt t) 4 := ld_val f (tt t) 4 _ (k1_off6_eq t) _ _
  have h5 : k1_pay9 (View.readAt (Elt F) (lg).view (Rect.unit (s := S16x256) (k1_off7 t) S1x16.size (k1_off7_inb t)).toLoadRect f) = vecAt f (tt t) 5 := ld_val f (tt t) 5 _ (k1_off7_eq t) _ _
  have h6 : k1_pay10 (View.readAt (Elt F) (lg).view (Rect.unit (s := S16x256) (k1_off8 t) S1x16.size (k1_off8_inb t)).toLoadRect f) = vecAt f (tt t) 6 := ld_val f (tt t) 6 _ (k1_off8_eq t) _ _
  have h7 : k1_pay11 (View.readAt (Elt F) (lg).view (Rect.unit (s := S16x256) (k1_off9 t) S1x16.size (k1_off9_inb t)).toLoadRect f) = vecAt f (tt t) 7 := ld_val f (tt t) 7 _ (k1_off9_eq t) _ _
  have h8 : k1_pay12 (View.readAt (Elt F) (lg).view (Rect.unit (s := S16x256) (k1_off10 t) S1x16.size (k1_off10_inb t)).toLoadRect f) = vecAt f (tt t) 8 := ld_val f (tt t) 8 _ (k1_off10_eq t) _ _
  have h9 : k1_pay13 (View.readAt (Elt F) (lg).view (Rect.unit (s := S16x256) (k1_off11 t) S1x16.size (k1_off11_inb t)).toLoadRect f) = vecAt f (tt t) 9 := ld_val f (tt t) 9 _ (k1_off11_eq t) _ _
  have h10 : k1_pay14 (View.readAt (Elt F) (lg).view (Rect.unit (s := S16x256) (k1_off12 t) S1x16.size (k1_off12_inb t)).toLoadRect f) = vecAt f (tt t) 10 := ld_val f (tt t) 10 _ (k1_off12_eq t) _ _
  iintro H Hk
  iapply (wp_load 𝒱₀ (V d (cV L) (jV L)) none Set.univ (m := lg) (S := Finset.univ) (Finset.subset_univ _)) $$ H; iintro H
  iapply (wp_load 𝒱₀ (V d (cV L) (jV L)) none Set.univ (m := lg) (S := Finset.univ) (Finset.subset_univ _)) $$ H; iintro H
  iapply (wp_load 𝒱₀ (V d (cV L) (jV L)) none Set.univ (m := lg) (S := Finset.univ) (Finset.subset_univ _)) $$ H; iintro H
  iapply (wp_load 𝒱₀ (V d (cV L) (jV L)) none Set.univ (m := lg) (S := Finset.univ) (Finset.subset_univ _)) $$ H; iintro H
  iapply (wp_load 𝒱₀ (V d (cV L) (jV L)) none Set.univ (m := lg) (S := Finset.univ) (Finset.subset_univ _)) $$ H; iintro H
  iapply (wp_load 𝒱₀ (V d (cV L) (jV L)) none Set.univ (m := lg) (S := Finset.univ) (Finset.subset_univ _)) $$ H; iintro H
  iapply (wp_load 𝒱₀ (V d (cV L) (jV L)) none Set.univ (m := lg) (S := Finset.univ) (Finset.subset_univ _)) $$ H; iintro H
  iapply (wp_load 𝒱₀ (V d (cV L) (jV L)) none Set.univ (m := lg) (S := Finset.univ) (Finset.subset_univ _)) $$ H; iintro H
  iapply (wp_load 𝒱₀ (V d (cV L) (jV L)) none Set.univ (m := lg) (S := Finset.univ) (Finset.subset_univ _)) $$ H; iintro H
  iapply (wp_load 𝒱₀ (V d (cV L) (jV L)) none Set.univ (m := lg) (S := Finset.univ) (Finset.subset_univ _)) $$ H; iintro H
  iapply (wp_load 𝒱₀ (V d (cV L) (jV L)) none Set.univ (m := lg) (S := Finset.univ) (Finset.subset_univ _)) $$ H; iintro H
  rw [h0, h1, h2, h3, h4, h5, h6, h7, h8, h9, h10]
  iapply Hk; iexact H

theorem pay20_val (vs : Fin 16 → Vec F S16 .f32) (l11 l12 l13 l14 l15 : Vec F S1x16 .f32) (h11 : k1_pay15 l11 = vs 11) (h12 : k1_pay16 l12 = vs 12) (h13 : k1_pay17 l13 = vs 13) (h14 : k1_pay18 l14 = vs 14) (h15 : k1_pay19 l15 = vs 15) :
    k1_pay20 (vs 0) (vs 1) (vs 2) (vs 3) (vs 4) (vs 5) (vs 6) (vs 7) (vs 8) (vs 9) (vs 10) l11 l12 l13 l14 l15 = vTop vs := by
  unfold k1_pay20; rw [h11, h12, h13, h14, h15]; rfl

theorem pay21_val (vs : Fin 16 → Vec F S16 .f32) (l11 l12 l13 l14 l15 : Vec F S1x16 .f32) (h11 : k1_pay15 l11 = vs 11) (h12 : k1_pay16 l12 = vs 12) (h13 : k1_pay17 l13 = vs 13) (h14 : k1_pay18 l14 = vs 14) (h15 : k1_pay19 l15 = vs 15) :
    k1_pay21 (vs 0) (vs 1) (vs 2) (vs 3) (vs 4) (vs 5) (vs 6) (vs 7) (vs 8) (vs 9) (vs 10) l11 l12 l13 l14 l15 = vPos vs (vTop vs) 0 := by
  unfold k1_pay21; rw [pay20_val vs l11 l12 l13 l14 l15 h11 h12 h13 h14 h15]; rfl

theorem pay22_val (vs : Fin 16 → Vec F S16 .f32) (l11 l12 l13 l14 l15 : Vec F S1x16 .f32) (h11 : k1_pay15 l11 = vs 11) (h12 : k1_pay16 l12 = vs 12) (h13 : k1_pay17 l13 = vs 13) (h14 : k1_pay18 l14 = vs 14) (h15 : k1_pay19 l15 = vs 15) :
    k1_pay22 (vs 0) (vs 1) (vs 2) (vs 3) (vs 4) (vs 5) (vs 6) (vs 7) (vs 8) (vs 9) (vs 10) l11 l12 l13 l14 l15 = vPos vs (vTop vs) 1 := by
  unfold k1_pay22; rw [pay20_val vs l11 l12 l13 l14 l15 h11 h12 h13 h14 h15]; rfl

theorem pay23_val (vs : Fin 16 → Vec F S16 .f32) (l11 l12 l13 l14 l15 : Vec F S1x16 .f32) (h11 : k1_pay15 l11 = vs 11) (h12 : k1_pay16 l12 = vs 12) (h13 : k1_pay17 l13 = vs 13) (h14 : k1_pay18 l14 = vs 14) (h15 : k1_pay19 l15 = vs 15) :
    k1_pay23 (vs 0) (vs 1) (vs 2) (vs 3) (vs 4) (vs 5) (vs 6) (vs 7) (vs 8) (vs 9) (vs 10) l11 l12 l13 l14 l15 = vPos vs (vTop vs) 2 := by
  unfold k1_pay23; rw [pay20_val vs l11 l12 l13 l14 l15 h11 h12 h13 h14 h15]; rfl

theorem pay24_val (vs : Fin 16 → Vec F S16 .f32) (l11 l12 l13 l14 l15 : Vec F S1x16 .f32) (h11 : k1_pay15 l11 = vs 11) (h12 : k1_pay16 l12 = vs 12) (h13 : k1_pay17 l13 = vs 13) (h14 : k1_pay18 l14 = vs 14) (h15 : k1_pay19 l15 = vs 15) :
    k1_pay24 (vs 0) (vs 1) (vs 2) (vs 3) (vs 4) (vs 5) (vs 6) (vs 7) (vs 8) (vs 9) (vs 10) l11 l12 l13 l14 l15 = cmpf .oeq (vs 3) (vTop vs) := by
  unfold k1_pay24; rw [pay20_val vs l11 l12 l13 l14 l15 h11 h12 h13 h14 h15]

/-- The last five loads of a trip. -/
theorem wp_part2 (v9 : BitVec 32) {α : Type} {kk : _ → Prog (TpuEff nD τ sig (Elt F) Λ₀ (V d (cV L) (jV L)).2) α} {Q : α → sProp 𝕄} :
    lgPts d L f ⊢ iprop((lgPts d L f -∗ wp frame (wpE (defs₀ (F := F)) 𝒱₀ (V d (cV L) (jV L)) none) Set.univ (kk ⟨vecAt f (tt t) 11, vecAt f (tt t) 12, vecAt f (tt t) 13, vecAt f (tt t) 14, vecAt f (tt t) 15, vTop (vecAt f (tt t)), vPos (vecAt f (tt t)) (vTop (vecAt f (tt t))) 0, vPos (vecAt f (tt t)) (vTop (vecAt f (tt t))) 1, vPos (vecAt f (tt t)) (vTop (vecAt f (tt t))) 2, cmpf .oeq (vecAt f (tt t) 3) (vTop (vecAt f (tt t))), 16#32, broadcast S16 3#32⟩) Q)
      -∗ wp frame (wpE (defs₀ (F := F)) 𝒱₀ (V d (cV L) (jV L)) none) Set.univ (k1_part2 (F := F) L aL hL aM hM aW hW lg (Memref.isWhole_whole _) mk (Memref.isWhole_whole _) wt (Memref.isWhole_whole _) s0 s1 s2 t v9 (vecAt f (tt t) 0) (vecAt f (tt t) 1) (vecAt f (tt t) 2) (vecAt f (tt t) 3) (vecAt f (tt t) 4) (vecAt f (tt t) 5) (vecAt f (tt t) 6) (vecAt f (tt t) 7) (vecAt f (tt t) 8) (vecAt f (tt t) 9) (vecAt f (tt t) 10) >>= kk) Q) := by
  rw [k1_part2_eq_skeleton]; unfold k1_part2_skel
  simp only [Prog.lift, Prog.bind_op, Prog.bind_ret, Prog.pure_eq_ret]
  have h11 : k1_pay15 (View.readAt (Elt F) (lg).view (Rect.unit (s := S16x256) (k1_off13 t) S1x16.size (k1_off13_inb t)).toLoadRect f) = vecAt f (tt t) 11 := ld_val f (tt t) 11 _ (k1_off13_eq t) _ _
  have h12 : k1_pay16 (View.readAt (Elt F) (lg).view (Rect.unit (s := S16x256) (k1_off14 t) S1x16.size (k1_off14_inb t)).toLoadRect f) = vecAt f (tt t) 12 := ld_val f (tt t) 12 _ (k1_off14_eq t) _ _
  have h13 : k1_pay17 (View.readAt (Elt F) (lg).view (Rect.unit (s := S16x256) (k1_off15 t) S1x16.size (k1_off15_inb t)).toLoadRect f) = vecAt f (tt t) 13 := ld_val f (tt t) 13 _ (k1_off15_eq t) _ _
  have h14 : k1_pay18 (View.readAt (Elt F) (lg).view (Rect.unit (s := S16x256) (k1_off16 t) S1x16.size (k1_off16_inb t)).toLoadRect f) = vecAt f (tt t) 14 := ld_val f (tt t) 14 _ (k1_off16_eq t) _ _
  have h15 : k1_pay19 (View.readAt (Elt F) (lg).view (Rect.unit (s := S16x256) (k1_off17 t) S1x16.size (k1_off17_inb t)).toLoadRect f) = vecAt f (tt t) 15 := ld_val f (tt t) 15 _ (k1_off17_eq t) _ _
  iintro H Hk
  iapply (wp_load 𝒱₀ (V d (cV L) (jV L)) none Set.univ (m := lg) (S := Finset.univ) (Finset.subset_univ _)) $$ H; iintro H
  iapply (wp_load 𝒱₀ (V d (cV L) (jV L)) none Set.univ (m := lg) (S := Finset.univ) (Finset.subset_univ _)) $$ H; iintro H
  iapply (wp_load 𝒱₀ (V d (cV L) (jV L)) none Set.univ (m := lg) (S := Finset.univ) (Finset.subset_univ _)) $$ H; iintro H
  iapply (wp_load 𝒱₀ (V d (cV L) (jV L)) none Set.univ (m := lg) (S := Finset.univ) (Finset.subset_univ _)) $$ H; iintro H
  iapply (wp_load 𝒱₀ (V d (cV L) (jV L)) none Set.univ (m := lg) (S := Finset.univ) (Finset.subset_univ _)) $$ H; iintro H
  rw [pay20_val (vecAt f (tt t)) _ _ _ _ _ h11 h12 h13 h14 h15, pay21_val (vecAt f (tt t)) _ _ _ _ _ h11 h12 h13 h14 h15, pay22_val (vecAt f (tt t)) _ _ _ _ _ h11 h12 h13 h14 h15, pay23_val (vecAt f (tt t)) _ _ _ _ _ h11 h12 h13 h14 h15, pay24_val (vecAt f (tt t)) _ _ _ _ _ h11 h12 h13 h14 h15, h11, h12, h13, h14, h15]
  iapply Hk; iexact H

/-- The mask of the subcore's tokens. -/
def GM (f : S16x256.Idx → F .f32) : Fin 256 → Fin 16 → F .f32 := fun n e => gate (col f n) e
/-- The weights of the subcore's tokens. -/
def GW (f : S16x256.Idx → F .f32) : Fin 256 → Fin 16 → F .f32 := fun n e => weight (col f n) e

variable (f₁ f₂ : S4096.Idx → F .f32)

/-- The stores of the first experts. -/
theorem wp_part12 {α : Type} {kk : _ → Prog (TpuEff nD τ sig (Elt F) Λ₀ (V d (cV L) (jV L)).2) α} {Q : α → sProp 𝕄} :
    iprop(rowPts d L mk (GM f) f₁ (tt t).val 0 ∗ rowPts d L wt (GW f) f₂ (tt t).val 0) ⊢ iprop((iprop(rowPts d L mk (GM f) f₁ (tt t).val 6 ∗ rowPts d L wt (GW f) f₂ (tt t).val 5) -∗ wp frame (wpE (defs₀ (F := F)) 𝒱₀ (V d (cV L) (jV L)) none) Set.univ (kk 5#32) Q)
      -∗ wp frame (wpE (defs₀ (F := F)) 𝒱₀ (V d (cV L) (jV L)) none) Set.univ (k1_part12 (F := F) L aL hL aM hM aW hW lg (Memref.isWhole_whole _) mk (Memref.isWhole_whole _) wt (Memref.isWhole_whole _) s0 s1 s2 (vGate (vecAt f (tt t)) 0) (vGate (vecAt f (tt t)) 1) (vGate (vecAt f (tt t)) 2) (vGate (vecAt f (tt t)) 3) (vGate (vecAt f (tt t)) 4) (vGate (vecAt f (tt t)) 5) (vExpo (vecAt f (tt t)) 0) (vExpo (vecAt f (tt t)) 1) (vExpo (vecAt f (tt t)) 2) (vExpo (vecAt f (tt t)) 3) (vExpo (vecAt f (tt t)) 4) (vInv (vecAt f (tt t))) (k1_pay125 k1_pay1 (Scf.iv 0#32 1#32 t.val)) 0#32 >>= kk) Q) := by
  rw [k1_part12_eq_skeleton]; unfold k1_part12_skel
  simp only [Prog.lift, Prog.bind_op, Prog.bind_ret, Prog.pure_eq_ret, Prog.bind_assoc]
  iintro ⟨M, W⟩ Hk
  iapply (wp_put d L mk (GM f) f₁ (tt t) 0 1 (by decide) rfl (v := vGate (vecAt f (tt t)) 0) (fun _ => rfl) (w := k1_pay126 (k1_pay125 k1_pay1 (Scf.iv 0#32 1#32 t.val)) 0#32) (idx_eq (tt t) 0 0#32 rfl) (idx_chk (tt t) 0 (by decide) (idx_eq (tt t) 0 0#32 rfl))) $$ M; iintro M
  iapply (wp_put d L wt (GW f) f₂ (tt t) 0 1 (by decide) rfl (v := k1_pay128 (vExpo (vecAt f (tt t)) 0) (vInv (vecAt f (tt t)))) (fun _ => rfl) (w := k1_pay127 (k1_pay125 k1_pay1 (Scf.iv 0#32 1#32 t.val))) (idx_eq (tt t) 0 0#32 rfl) (idx_chk (tt t) 0 (by decide) (idx_eq (tt t) 0 0#32 rfl))) $$ W; iintro W
  iapply (wp_put d L mk (GM f) f₁ (tt t) 1 2 (by decide) rfl (v := vGate (vecAt f (tt t)) 1) (fun _ => rfl) (w := k1_pay129 (k1_pay125 k1_pay1 (Scf.iv 0#32 1#32 t.val))) (idx_eq (tt t) 1 1#32 rfl) (idx_chk (tt t) 1 (by decide) (idx_eq (tt t) 1 1#32 rfl))) $$ M; iintro M
  iapply (wp_put d L wt (GW f) f₂ (tt t) 1 2 (by decide) rfl (v := k1_pay131 (vExpo (vecAt f (tt t)) 1) (vInv (vecAt f (tt t)))) (fun _ => rfl) (w := k1_pay130 (k1_pay125 k1_pay1 (Scf.iv 0#32 1#32 t.val))) (idx_eq (tt t) 1 1#32 rfl) (idx_chk (tt t) 1 (by decide) (idx_eq (tt t) 1 1#32 rfl))) $$ W; iintro W
  iapply (wp_put d L mk (GM f) f₁ (tt t) 2 3 (by decide) rfl (v := vGate (vecAt f (tt t)) 2) (fun _ => rfl) (w := k1_pay132 (k1_pay125 k1_pay1 (Scf.iv 0#32 1#32 t.val))) (idx_eq (tt t) 2 2#32 rfl) (idx_chk (tt t) 2 (by decide) (idx_eq (tt t) 2 2#32 rfl))) $$ M; iintro M
  iapply (wp_put d L wt (GW f) f₂ (tt t) 2 3 (by decide) rfl (v := k1_pay134 (vExpo (vecAt f (tt t)) 2) (vInv (vecAt f (tt t)))) (fun _ => rfl) (w := k1_pay133 (k1_pay125 k1_pay1 (Scf.iv 0#32 1#32 t.val))) (idx_eq (tt t) 2 2#32 rfl) (idx_chk (tt t) 2 (by decide) (idx_eq (tt t) 2 2#32 rfl))) $$ W; iintro W
  iapply (wp_put d L mk (GM f) f₁ (tt t) 3 4 (by decide) rfl (v := vGate (vecAt f (tt t)) 3) (fun _ => rfl) (w := k1_pay135 (k1_pay125 k1_pay1 (Scf.iv 0#32 1#32 t.val))) (idx_eq (tt t) 3 3#32 rfl) (idx_chk (tt t) 3 (by decide) (idx_eq (tt t) 3 3#32 rfl))) $$ M; iintro M
  iapply (wp_put d L wt (GW f) f₂ (tt t) 3 4 (by decide) rfl (v := k1_pay137 (vExpo (vecAt f (tt t)) 3) (vInv (vecAt f (tt t)))) (fun _ => rfl) (w := k1_pay136 (k1_pay125 k1_pay1 (Scf.iv 0#32 1#32 t.val))) (idx_eq (tt t) 3 3#32 rfl) (idx_chk (tt t) 3 (by decide) (idx_eq (tt t) 3 3#32 rfl))) $$ W; iintro W
  iapply (wp_put d L mk (GM f) f₁ (tt t) 4 5 (by decide) rfl (v := vGate (vecAt f (tt t)) 4) (fun _ => rfl) (w := k1_pay138 (k1_pay125 k1_pay1 (Scf.iv 0#32 1#32 t.val))) (idx_eq (tt t) 4 4#32 rfl) (idx_chk (tt t) 4 (by decide) (idx_eq (tt t) 4 4#32 rfl))) $$ M; iintro M
  iapply (wp_put d L wt (GW f) f₂ (tt t) 4 5 (by decide) rfl (v := k1_pay140 (vExpo (vecAt f (tt t)) 4) (vInv (vecAt f (tt t)))) (fun _ => rfl) (w := k1_pay139 (k1_pay125 k1_pay1 (Scf.iv 0#32 1#32 t.val))) (idx_eq (tt t) 4 4#32 rfl) (idx_chk (tt t) 4 (by decide) (idx_eq (tt t) 4 4#32 rfl))) $$ W; iintro W
  iapply (wp_put d L mk (GM f) f₁ (tt t) 5 6 (by decide) rfl (v := vGate (vecAt f (tt t)) 5) (fun _ => rfl) (w := k1_pay141 (k1_pay125 k1_pay1 (Scf.iv 0#32 1#32 t.val))) (idx_eq (tt t) 5 5#32 rfl) (idx_chk (tt t) 5 (by decide) (idx_eq (tt t) 5 5#32 rfl))) $$ M; iintro M
  iapply Hk; isplitl [M]; · iexact M
  iexact W

/-- The stores of the middle experts. -/
theorem wp_part13 {α : Type} {kk : _ → Prog (TpuEff nD τ sig (Elt F) Λ₀ (V d (cV L) (jV L)).2) α} {Q : α → sProp 𝕄} :
    iprop(rowPts d L mk (GM f) f₁ (tt t).val 6 ∗ rowPts d L wt (GW f) f₂ (tt t).val 5) ⊢ iprop((iprop(rowPts d L mk (GM f) f₁ (tt t).val 11 ∗ rowPts d L wt (GW f) f₂ (tt t).val 11) -∗ wp frame (wpE (defs₀ (F := F)) 𝒱₀ (V d (cV L) (jV L)) none) Set.univ (kk ⟨⟩) Q)
      -∗ wp frame (wpE (defs₀ (F := F)) 𝒱₀ (V d (cV L) (jV L)) none) Set.univ (k1_part13 (F := F) L aL hL aM hM aW hW lg (Memref.isWhole_whole _) mk (Memref.isWhole_whole _) wt (Memref.isWhole_whole _) s0 s1 s2 (vGate (vecAt f (tt t)) 6) (vGate (vecAt f (tt t)) 7) (vGate (vecAt f (tt t)) 8) (vGate (vecAt f (tt t)) 9) (vGate (vecAt f (tt t)) 10) (vExpo (vecAt f (tt t)) 5) (vExpo (vecAt f (tt t)) 6) (vExpo (vecAt f (tt t)) 7) (vExpo (vecAt f (tt t)) 8) (vExpo (vecAt f (tt t)) 9) (vExpo (vecAt f (tt t)) 10) (vInv (vecAt f (tt t))) (k1_pay125 k1_pay1 (Scf.iv 0#32 1#32 t.val)) 5#32 >>= kk) Q) := by
  rw [k1_part13_eq_skeleton]; unfold k1_part13_skel
  simp only [Prog.lift, Prog.bind_op, Prog.bind_ret, Prog.pure_eq_ret, Prog.bind_assoc]
  iintro ⟨M, W⟩ Hk
  iapply (wp_put d L wt (GW f) f₂ (tt t) 5 6 (by decide) rfl (v := k1_pay143 (vExpo (vecAt f (tt t)) 5) (vInv (vecAt f (tt t)))) (fun _ => rfl) (w := k1_pay142 (k1_pay125 k1_pay1 (Scf.iv 0#32 1#32 t.val)) 5#32) (idx_eq (tt t) 5 5#32 rfl) (idx_chk (tt t) 5 (by decide) (idx_eq (tt t) 5 5#32 rfl))) $$ W; iintro W
  iapply (wp_put d L mk (GM f) f₁ (tt t) 6 7 (by decide) rfl (v := vGate (vecAt f (tt t)) 6) (fun _ => rfl) (w := k1_pay144 (k1_pay125 k1_pay1 (Scf.iv 0#32 1#32 t.val))) (idx_eq (tt t) 6 6#32 rfl) (idx_chk (tt t) 6 (by decide) (idx_eq (tt t) 6 6#32 rfl))) $$ M; iintro M
  iapply (wp_put d L wt (GW f) f₂ (tt t) 6 7 (by decide) rfl (v := k1_pay146 (vExpo (vecAt f (tt t)) 6) (vInv (vecAt f (tt t)))) (fun _ => rfl) (w := k1_pay145 (k1_pay125 k1_pay1 (Scf.iv 0#32 1#32 t.val))) (idx_eq (tt t) 6 6#32 rfl) (idx_chk (tt t) 6 (by decide) (idx_eq (tt t) 6 6#32 rfl))) $$ W; iintro W
  iapply (wp_put d L mk (GM f) f₁ (tt t) 7 8 (by decide) rfl (v := vGate (vecAt f (tt t)) 7) (fun _ => rfl) (w := k1_pay147 (k1_pay125 k1_pay1 (Scf.iv 0#32 1#32 t.val))) (idx_eq (tt t) 7 7#32 rfl) (idx_chk (tt t) 7 (by decide) (idx_eq (tt t) 7 7#32 rfl))) $$ M; iintro M
  iapply (wp_put d L wt (GW f) f₂ (tt t) 7 8 (by decide) rfl (v := k1_pay149 (vExpo (vecAt f (tt t)) 7) (vInv (vecAt f (tt t)))) (fun _ => rfl) (w := k1_pay148 (k1_pay125 k1_pay1 (Scf.iv 0#32 1#32 t.val))) (idx_eq (tt t) 7 7#32 rfl) (idx_chk (tt t) 7 (by decide) (idx_eq (tt t) 7 7#32 rfl))) $$ W; iintro W
  iapply (wp_put d L mk (GM f) f₁ (tt t) 8 9 (by decide) rfl (v := vGate (vecAt f (tt t)) 8) (fun _ => rfl) (w := k1_pay150 (k1_pay125 k1_pay1 (Scf.iv 0#32 1#32 t.val))) (idx_eq (tt t) 8 8#32 rfl) (idx_chk (tt t) 8 (by decide) (idx_eq (tt t) 8 8#32 rfl))) $$ M; iintro M
  iapply (wp_put d L wt (GW f) f₂ (tt t) 8 9 (by decide) rfl (v := k1_pay152 (vExpo (vecAt f (tt t)) 8) (vInv (vecAt f (tt t)))) (fun _ => rfl) (w := k1_pay151 (k1_pay125 k1_pay1 (Scf.iv 0#32 1#32 t.val))) (idx_eq (tt t) 8 8#32 rfl) (idx_chk (tt t) 8 (by decide) (idx_eq (tt t) 8 8#32 rfl))) $$ W; iintro W
  iapply (wp_put d L mk (GM f) f₁ (tt t) 9 10 (by decide) rfl (v := vGate (vecAt f (tt t)) 9) (fun _ => rfl) (w := k1_pay153 (k1_pay125 k1_pay1 (Scf.iv 0#32 1#32 t.val))) (idx_eq (tt t) 9 9#32 rfl) (idx_chk (tt t) 9 (by decide) (idx_eq (tt t) 9 9#32 rfl))) $$ M; iintro M
  iapply (wp_put d L wt (GW f) f₂ (tt t) 9 10 (by decide) rfl (v := k1_pay155 (vExpo (vecAt f (tt t)) 9) (vInv (vecAt f (tt t)))) (fun _ => rfl) (w := k1_pay154 (k1_pay125 k1_pay1 (Scf.iv 0#32 1#32 t.val))) (idx_eq (tt t) 9 9#32 rfl) (idx_chk (tt t) 9 (by decide) (idx_eq (tt t) 9 9#32 rfl))) $$ W; iintro W
  iapply (wp_put d L mk (GM f) f₁ (tt t) 10 11 (by decide) rfl (v := vGate (vecAt f (tt t)) 10) (fun _ => rfl) (w := k1_pay156 (k1_pay125 k1_pay1 (Scf.iv 0#32 1#32 t.val))) (idx_eq (tt t) 10 10#32 rfl) (idx_chk (tt t) 10 (by decide) (idx_eq (tt t) 10 10#32 rfl))) $$ M; iintro M
  iapply (wp_put d L wt (GW f) f₂ (tt t) 10 11 (by decide) rfl (v := k1_pay158 (vExpo (vecAt f (tt t)) 10) (vInv (vecAt f (tt t)))) (fun _ => rfl) (w := k1_pay157 (k1_pay125 k1_pay1 (Scf.iv 0#32 1#32 t.val))) (idx_eq (tt t) 10 10#32 rfl) (idx_chk (tt t) 10 (by decide) (idx_eq (tt t) 10 10#32 rfl))) $$ W; iintro W
  iapply Hk; isplitl [M]; · iexact M
  iexact W

/-- A trip. -/
theorem wp_trip {Q : Unit → sProp 𝕄} :
    iprop(lgPts d L f ∗ iprop(rowPts d L mk (GM f) f₁ (tt t).val 0 ∗ rowPts d L wt (GW f) f₂ (tt t).val 0)) ⊢ iprop((lgPts d L f -∗ iprop(rowPts d L mk (GM f) f₁ (tt t).val 16 ∗ rowPts d L wt (GW f) f₂ (tt t).val 16) -∗ Q ⟨⟩)
      -∗ wp frame (wpE (defs₀ (F := F)) 𝒱₀ (V d (cV L) (jV L)) none) Set.univ (k1_t1_body (F := F) L aL hL aM hM aW hW lg (Memref.isWhole_whole _) mk (Memref.isWhole_whole _) wt (Memref.isWhole_whole _) s0 s1 s2 ninf one zero t ⟨⟩) Q) := by
  unfold k1_t1_body
  rw [k1_part14_eq_skeleton]; unfold k1_part14_skel
  simp only [Prog.lift, Prog.bind_op, Prog.bind_ret, Prog.pure_eq_ret, Prog.bind_assoc]
  iintro ⟨H, M, W⟩ Hk
  iapply (wp_part1 d L aL hL aM hM aW hW s0 s1 s2 t f) $$ H; iintro %v9 H
  iapply (wp_part2 d L aL hL aM hM aW hW s0 s1 s2 t f v9) $$ H; iintro H
  rw [part3_val L aL hL aM hM aW hW lg (Memref.isWhole_whole _) mk (Memref.isWhole_whole _) wt (Memref.isWhole_whole _) s0 s1 s2 (vecAt f (tt t))]; simp only [Prog.bind_ret, Prog.pure_eq_ret]
  rw [part4_val L aL hL aM hM aW hW lg (Memref.isWhole_whole _) mk (Memref.isWhole_whole _) wt (Memref.isWhole_whole _) s0 s1 s2 (vecAt f (tt t))]; simp only [Prog.bind_ret, Prog.pure_eq_ret]
  rw [part5_val L aL hL aM hM aW hW lg (Memref.isWhole_whole _) mk (Memref.isWhole_whole _) wt (Memref.isWhole_whole _) s0 s1 s2 (vecAt f (tt t))]; simp only [Prog.bind_ret, Prog.pure_eq_ret]
  rw [part6_val L aL hL aM hM aW hW lg (Memref.isWhole_whole _) mk (Memref.isWhole_whole _) wt (Memref.isWhole_whole _) s0 s1 s2 (vecAt f (tt t))]; simp only [Prog.bind_ret, Prog.pure_eq_ret]
  rw [part7_val L aL hL aM hM aW hW lg (Memref.isWhole_whole _) mk (Memref.isWhole_whole _) wt (Memref.isWhole_whole _) s0 s1 s2 (vecAt f (tt t))]; simp only [Prog.bind_ret, Prog.pure_eq_ret]
  rw [part8_val L aL hL aM hM aW hW lg (Memref.isWhole_whole _) mk (Memref.isWhole_whole _) wt (Memref.isWhole_whole _) s0 s1 s2 (vecAt f (tt t))]; simp only [Prog.bind_ret, Prog.pure_eq_ret]
  rw [part9_val L aL hL aM hM aW hW lg (Memref.isWhole_whole _) mk (Memref.isWhole_whole _) wt (Memref.isWhole_whole _) s0 s1 s2 (vecAt f (tt t))]; simp only [Prog.bind_ret, Prog.pure_eq_ret]
  rw [part10_val L aL hL aM hM aW hW lg (Memref.isWhole_whole _) mk (Memref.isWhole_whole _) wt (Memref.isWhole_whole _) s0 s1 s2 (vecAt f (tt t))]; simp only [Prog.bind_ret, Prog.pure_eq_ret]
  rw [part11_val L aL hL aM hM aW hW lg (Memref.isWhole_whole _) mk (Memref.isWhole_whole _) wt (Memref.isWhole_whole _) s0 s1 s2 k1_pay1 (Scf.iv 0#32 1#32 t.val) (vecAt f (tt t))]; simp only [Prog.bind_ret, Prog.pure_eq_ret]
  iapply (wp_part12 d L aL hL aM hM aW hW s0 s1 s2 t f f₁ f₂) $$ [M W]
  · isplitl [M]
    · iexact M
    iexact W
  iintro ⟨M, W⟩
  iapply (wp_part13 d L aL hL aM hM aW hW s0 s1 s2 t f f₁ f₂) $$ [M W]
  · isplitl [M]
    · iexact M
    iexact W
  iintro ⟨M, W⟩
  iapply (wp_put d L mk (GM f) f₁ (tt t) 11 12 (by decide) rfl (v := vGate (vecAt f (tt t)) 11) (fun _ => rfl) (w := k1_pay159 (k1_pay125 k1_pay1 (Scf.iv 0#32 1#32 t.val))) (idx_eq (tt t) 11 11#32 rfl) (idx_chk (tt t) 11 (by decide) (idx_eq (tt t) 11 11#32 rfl))) $$ M; iintro M
  iapply (wp_put d L wt (GW f) f₂ (tt t) 11 12 (by decide) rfl (v := k1_pay161 (vExpo (vecAt f (tt t)) 11) (vInv (vecAt f (tt t)))) (fun _ => rfl) (w := k1_pay160 (k1_pay125 k1_pay1 (Scf.iv 0#32 1#32 t.val))) (idx_eq (tt t) 11 11#32 rfl) (idx_chk (tt t) 11 (by decide) (idx_eq (tt t) 11 11#32 rfl))) $$ W; iintro W
  iapply (wp_put d L mk (GM f) f₁ (tt t) 12 13 (by decide) rfl (v := vGate (vecAt f (tt t)) 12) (fun _ => rfl) (w := k1_pay162 (k1_pay125 k1_pay1 (Scf.iv 0#32 1#32 t.val))) (idx_eq (tt t) 12 12#32 rfl) (idx_chk (tt t) 12 (by decide) (idx_eq (tt t) 12 12#32 rfl))) $$ M; iintro M
  iapply (wp_put d L wt (GW f) f₂ (tt t) 12 13 (by decide) rfl (v := k1_pay164 (vExpo (vecAt f (tt t)) 12) (vInv (vecAt f (tt t)))) (fun _ => rfl) (w := k1_pay163 (k1_pay125 k1_pay1 (Scf.iv 0#32 1#32 t.val))) (idx_eq (tt t) 12 12#32 rfl) (idx_chk (tt t) 12 (by decide) (idx_eq (tt t) 12 12#32 rfl))) $$ W; iintro W
  iapply (wp_put d L mk (GM f) f₁ (tt t) 13 14 (by decide) rfl (v := vGate (vecAt f (tt t)) 13) (fun _ => rfl) (w := k1_pay165 (k1_pay125 k1_pay1 (Scf.iv 0#32 1#32 t.val))) (idx_eq (tt t) 13 13#32 rfl) (idx_chk (tt t) 13 (by decide) (idx_eq (tt t) 13 13#32 rfl))) $$ M; iintro M
  iapply (wp_put d L wt (GW f) f₂ (tt t) 13 14 (by decide) rfl (v := k1_pay167 (vExpo (vecAt f (tt t)) 13) (vInv (vecAt f (tt t)))) (fun _ => rfl) (w := k1_pay166 (k1_pay125 k1_pay1 (Scf.iv 0#32 1#32 t.val))) (idx_eq (tt t) 13 13#32 rfl) (idx_chk (tt t) 13 (by decide) (idx_eq (tt t) 13 13#32 rfl))) $$ W; iintro W
  iapply (wp_put d L mk (GM f) f₁ (tt t) 14 15 (by decide) rfl (v := vGate (vecAt f (tt t)) 14) (fun _ => rfl) (w := k1_pay168 (k1_pay125 k1_pay1 (Scf.iv 0#32 1#32 t.val))) (idx_eq (tt t) 14 14#32 rfl) (idx_chk (tt t) 14 (by decide) (idx_eq (tt t) 14 14#32 rfl))) $$ M; iintro M
  iapply (wp_put d L wt (GW f) f₂ (tt t) 14 15 (by decide) rfl (v := k1_pay170 (vExpo (vecAt f (tt t)) 14) (vInv (vecAt f (tt t)))) (fun _ => rfl) (w := k1_pay169 (k1_pay125 k1_pay1 (Scf.iv 0#32 1#32 t.val))) (idx_eq (tt t) 14 14#32 rfl) (idx_chk (tt t) 14 (by decide) (idx_eq (tt t) 14 14#32 rfl))) $$ W; iintro W
  iapply (wp_put d L mk (GM f) f₁ (tt t) 15 16 (by decide) rfl (v := vGate (vecAt f (tt t)) 15) (fun _ => rfl) (w := k1_pay171 (k1_pay125 k1_pay1 (Scf.iv 0#32 1#32 t.val))) (idx_eq (tt t) 15 15#32 rfl) (idx_chk (tt t) 15 (by decide) (idx_eq (tt t) 15 15#32 rfl))) $$ M; iintro M
  iapply (wp_put d L wt (GW f) f₂ (tt t) 15 16 (by decide) rfl (v := k1_pay3 (vExpo (vecAt f (tt t)) 15) (vInv (vecAt f (tt t)))) (fun _ => rfl) (w := k1_pay2 (k1_pay125 k1_pay1 (Scf.iv 0#32 1#32 t.val))) (idx_eq (tt t) 15 15#32 rfl) (idx_chk (tt t) 15 (by decide) (idx_eq (tt t) 15 15#32 rfl))) $$ W; iintro W
  rw [wp_ret]
  iapply Hk $$ H [M W]
  isplitl [M]; · iexact M
  iexact W

end Trip

end Cert.Proof.Gate

end
-- ==== Proof.Body.lean ====
/-
  The vector subcore's task: its columns of the logits in, sixteen trips, its words of the mask and of the weights out.
-/
module

public import proofs.«01_k».proof.Proof.Tile

@[expose] public section

noncomputable section

namespace Cert.Proof.Gate

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "lg" => (Memref.whole Cert.KernelIdeal.cc1_scratch0 : Memref Cert.KernelIdeal.sig Kind.scVector Space.vmem Cert.KernelIdeal.S16x256 EltTy.f32)
local notation "mk" => (Memref.whole Cert.KernelIdeal.cc1_scratch1 : Memref Cert.KernelIdeal.sig Kind.scVector Space.vmem Cert.KernelIdeal.S4096 EltTy.f32)
local notation "wt" => (Memref.whole Cert.KernelIdeal.cc1_scratch2 : Memref Cert.KernelIdeal.sig Kind.scVector Space.vmem Cert.KernelIdeal.S4096 EltTy.f32)
local notation "hL" => (Memref.whole Cert.KernelIdeal.main_v1_scv : Memref Cert.KernelIdeal.sig Kind.scVector Space.hbm Cert.KernelIdeal.S16x8192 EltTy.f32)
local notation "hM" => (Memref.whole Cert.KernelIdeal.main_v2_0_scv : Memref Cert.KernelIdeal.sig Kind.scVector Space.hbm Cert.KernelIdeal.S131072 EltTy.f32)
local notation "hW" => (Memref.whole Cert.KernelIdeal.main_v2_1_scv : Memref Cert.KernelIdeal.sig Kind.scVector Space.hbm Cert.KernelIdeal.S131072 EltTy.f32)

/-! ## What the whole launch leaves -/

/-- Token and expert of a word of the flat results. -/
def token (j : S131072.Idx) : Fin 8192 := ⟨(j 0).val / 16, by have := (j 0).isLt; change (j 0).val < 131072 at this; omega⟩
def expert (j : S131072.Idx) : Fin 16 := ⟨(j 0).val % 16, Nat.mod_lt _ (by decide)⟩
/-- Entry `(e, n)` of the logits, expert by token. -/
def at8 (e : Fin 16) (n : Fin 8192) : S16x8192.Idx := fun | 0 => e | 1 => n
/-- The logits of token `n`. -/
def lcol (x : S16x8192.Idx → F .f32) (n : Fin 8192) (e : Fin 16) : F .f32 := x (at8 e n)
/-- The mask of every token, flat. -/
def maskOut (x : S16x8192.Idx → F .f32) : S131072.Idx → F .f32 := fun j => gate (lcol x (token j)) (expert j)
/-- The weights of every token, flat. -/
def weightOut (x : S16x8192.Idx → F .f32) : S131072.Idx → F .f32 := fun j => weight (lcol x (token j)) (expert j)

section Body

variable (d : Dev nD) (L : grid1.Coords)

abbrev inR : Rect S16x8192 := Rect.unit (s := S16x8192) (k1_off1 L) S16x256.size (k1_off1_inb L)
abbrev outR : Rect S131072 := Rect.unit (s := S131072) (k1_off18 L) S4096.size (k1_off18_inb L)
/-- The task's columns of the logits and its words of the results, as it addresses them. -/
abbrev lK : Memref sig .scVector .hbm S16x256 .f32 := (hL).slice (inR L) (fun _ => rfl)
abbrev mK : Memref sig .scVector .hbm S4096 .f32 := (hM).slice (outR L) (fun _ => rfl)
abbrev wK : Memref sig .scVector .hbm S4096 .f32 := (hW).slice (outR L) (fun _ => rfl)

/-- The logits the task fetches. -/
def mine (x : S16x8192.Idx → F .f32) : S16x256.Idx → F .f32 := fun y => x ((inR L).emb y)

theorem mine_col (x : S16x8192.Idx → F .f32) (n : Fin 256) (n' : Fin 8192) (h : n'.val = 512 * (L 1).val + 256 * (L 0).val + n.val) (e : Fin 16) :
    col (mine L x) n e = lcol x n' e := by
  unfold col mine lcol
  congr 1
  funext a
  apply Fin.ext
  show k1_off1 L a + 1 * (at2 e n a).val = _
  rw [k1_off1_eq]
  match a with
  | 0 => show 0 + 1 * e.val = e.val; omega
  | 1 => show 512 * (L 1).val + 256 * (L 0).val + 1 * n.val = n'.val; omega

theorem out_tok (y : S4096.Idx) : (token ((outR L).emb y)).val = 512 * (L 1).val + 256 * (L 0).val + (tokOf y).val ∧ expert ((outR L).emb y) = expOf y := by
  have h : (((outR L).emb y) 0).val = 8192 * (L 1).val + 4096 * (L 0).val + (y 0).val := by
    show k1_off18 L 0 + 1 * (y 0).val = _
    rw [k1_off18_eq]
    show 8192 * (L 1).val + 4096 * (L 0).val + 1 * (y 0).val = _; omega
  constructor
  · show (((outR L).emb y) 0).val / 16 = _ + (y 0).val / 16
    rw [h]; omega
  · apply Fin.ext
    show (((outR L).emb y) 0).val % 16 = (y 0).val % 16
    rw [h]; omega

/-- The task's mask is the launch's, at its words. -/
theorem mask_out (x : S16x8192.Idx → F .f32) (y : S4096.Idx) : GM (mine L x) (tokOf y) (expOf y) = maskOut x ((outR L).emb y) := by
  have h := out_tok L y
  unfold GM maskOut
  rw [h.2]; congr 1
  funext e; exact mine_col L x _ _ h.1 e
/-- The task's weights are the launch's, at its words. -/
theorem weight_out (x : S16x8192.Idx → F .f32) (y : S4096.Idx) : GW (mine L x) (tokOf y) (expOf y) = weightOut x ((outR L).emb y) := by
  have h := out_tok L y
  unfold GW weightOut
  rw [h.2]; congr 1
  funext e; exact mine_col L x _ _ h.1 e

abbrev cell0 (d : Dev nD) (c : Fin τ.nSC) (i : Fin τ.nSub) : GSem nD τ sig := (V d c i, .dma cc1_scoped0.sem)
abbrev cell1 (d : Dev nD) (c : Fin τ.nSC) (i : Fin τ.nSub) : GSem nD τ sig := (V d c i, .dma cc1_scoped1.sem)
abbrev cell2 (d : Dev nD) (c : Fin τ.nSC) (i : Fin τ.nSub) : GSem nD τ sig := (V d c i, .dma cc1_scoped2.sem)

/-- The three copies' semaphores are among the subcore's own. -/
theorem ownSems0_V :
    (SparseCore.Cfg.ownSems0 (V d (cV L) (jV L)) : sProp 𝕄)
      = iprop(semVal (cell0 d (cV L) (jV L)) 0 ∗ semVal (cell1 d (cV L) (jV L)) 0 ∗ semVal (cell2 d (cV L) (jV L)) 0
          ∗ bigSep ((((SparseCore.Cfg.ownCells (V d (cV L) (jV L))).erase (cell0 d (cV L) (jV L))).erase (cell1 d (cV L) (jV L))).erase (cell2 d (cV L) (jV L))) fun g => semVal g 0) := by
  have mem : ∀ s : SemLoc sig, s.isScoped .scVector = true → ((V d (cV L) (jV L), s) : GSem nD τ sig) ∈ SparseCore.Cfg.ownCells (V d (cV L) (jV L)) :=
    fun s h => SparseCore.Cfg.mem_ownCells.mpr ⟨rfl, h⟩
  unfold SparseCore.Cfg.ownSems0
  rw [SparseCore.bigSep_erase' (mem (.dma cc1_scoped0.sem) (by decide)),
    SparseCore.bigSep_erase' (Finset.mem_erase.mpr ⟨by simp [cell0, cell1]; decide, mem (.dma cc1_scoped1.sem) (by decide)⟩),
    SparseCore.bigSep_erase' (Finset.mem_erase.mpr ⟨by simp [cell1, cell2]; decide, Finset.mem_erase.mpr ⟨by simp [cell0, cell2]; decide,
      mem (.dma cc1_scoped2.sem) (by decide)⟩⟩)]

/-- The three scratch buffers are among the subcore's own. -/
theorem ownBufs_V :
    (SparseCore.Cfg.ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f)
          ∗ bigSep ((((SparseCore.Cfg.ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  have mem : ∀ b : Ref sig .scVector, ((Proc.scVector (cV L) (jV L)).devRef b).owner = .proc (Proc.scVector (cV L) (jV L)) → (Proc.scVector (cV L) (jV L)).devRef b ∈ SparseCore.Cfg.ownRefs (τ := τ) (.scVector (cV L) (jV L)) :=
    fun b h => SparseCore.Cfg.mem_ownRefs_of_owner (p := Proc.scVector (cV L) (jV L)) h
  have ne : ∀ b b' : Ref sig .scVector, b ≠ b' → (Proc.scVector (cV L) (jV L)).devRef b ≠ (Proc.scVector (cV L) (jV L)).devRef b' :=
    fun b b' h e => h (Proc.devRef_injective _ e)
  unfold SparseCore.Cfg.ownBufs
  refine (SparseCore.bigSep_erase' (mem cc1_scratch0 rfl)).trans ?_
  rw [SparseCore.bigSep_erase' (Finset.mem_erase.mpr ⟨ne cc1_scratch1 cc1_scratch0 (by decide), mem cc1_scratch1 rfl⟩),
    SparseCore.bigSep_erase' (Finset.mem_erase.mpr ⟨ne cc1_scratch2 cc1_scratch1 (by decide), Finset.mem_erase.mpr ⟨ne cc1_scratch2 cc1_scratch0 (by decide), mem cc1_scratch2 rfl⟩⟩)]

/-- A result row before the first trip, and after the last. -/
theorem row_start1 (G : Fin 256 → Fin 16 → F .f32) (f : S4096.Idx → F .f32) :
    ((mk).view.loc (V d (cV L) (jV L)) ↦{fullShare} f : sProp 𝕄) ⊢ rowPts d L mk G f 0 0 := by
  unfold rowPts
  iintro H
  iexists f; isplitr
  · ipureintro; rw [stage_zero]; exact Memref.read_access_whole (Elt F) cc1_scratch1 f
  · rw [show ((mk).access (.whole S4096)).set = Finset.univ from Memref.set_access_whole _]; iexact H
theorem row_start2 (G : Fin 256 → Fin 16 → F .f32) (f : S4096.Idx → F .f32) :
    ((wt).view.loc (V d (cV L) (jV L)) ↦{fullShare} f : sProp 𝕄) ⊢ rowPts d L wt G f 0 0 := by
  unfold rowPts
  iintro H
  iexists f; isplitr
  · ipureintro; rw [stage_zero]; exact Memref.read_access_whole (Elt F) cc1_scratch2 f
  · rw [show ((wt).access (.whole S4096)).set = Finset.univ from Memref.set_access_whole _]; iexact H
theorem row_end1 (G : Fin 256 → Fin 16 → F .f32) (f : S4096.Idx → F .f32) :
    rowPts d L mk G f 16 0 ⊢ ((mk).view.loc (V d (cV L) (jV L)) ↦{fullShare} (fun j : S4096.Idx => G (tokOf j) (expOf j)) : sProp 𝕄) := by
  unfold rowPts
  iintro ⟨%g, %hg, H⟩
  rw [stage_end] at hg
  have hg' : g = fun j => G (tokOf j) (expOf j) := (Memref.read_access_whole (Elt F) cc1_scratch1 g).symm.trans hg
  subst hg'
  rw [show ((mk).access (.whole S4096)).set = Finset.univ from Memref.set_access_whole _]; iexact H
theorem row_end2 (G : Fin 256 → Fin 16 → F .f32) (f : S4096.Idx → F .f32) :
    rowPts d L wt G f 16 0 ⊢ ((wt).view.loc (V d (cV L) (jV L)) ↦{fullShare} (fun j : S4096.Idx => G (tokOf j) (expOf j)) : sProp 𝕄) := by
  unfold rowPts
  iintro ⟨%g, %hg, H⟩
  rw [stage_end] at hg
  have hg' : g = fun j => G (tokOf j) (expOf j) := (Memref.read_access_whole (Elt F) cc1_scratch2 g).symm.trans hg
  subst hg'
  rw [show ((wt).access (.whole S4096)).set = Finset.univ from Memref.set_access_whole _]; iexact H

/-- What the trips keep. -/
def loopInv (f : S16x256.Idx → F .f32) (f₁ f₂ : S4096.Idx → F .f32) (k : ℕ) (_ : PUnit.{1}) : sProp 𝕄 :=
  iprop(lgPts d L f ∗ rowPts d L mk (GM f) f₁ k 0 ∗ rowPts d L wt (GW f) f₂ k 0)

theorem loop_step (f : S16x256.Idx → F .f32) (f₁ f₂ : S4096.Idx → F .f32) (k : Fin k1_t1_loop.trips) (acc : PUnit.{1}) :
    loopInv d L f f₁ f₂ k.val acc ⊢ wp frame (wpE (defs₀ (F := F)) 𝒱₀ (V d (cV L) (jV L)) none) Set.univ
      (k1_t1_body (F := F) L hL (Memref.isWhole_whole _) hM (Memref.isWhole_whole _) hW (Memref.isWhole_whole _) lg (Memref.isWhole_whole _) mk (Memref.isWhole_whole _) wt (Memref.isWhole_whole _) cc1_scoped0 cc1_scoped1 cc1_scoped2 ninf one zero k acc)
      (loopInv d L f f₁ f₂ (k.val + 1)) := by
  show iprop(lgPts d L f ∗ rowPts d L mk (GM f) f₁ (tt k).val 0 ∗ rowPts d L wt (GW f) f₂ (tt k).val 0) ⊢ _
  iintro H
  iapply (wp_trip d L hL (Memref.isWhole_whole _) hM (Memref.isWhole_whole _) hW (Memref.isWhole_whole _) cc1_scoped0 cc1_scoped1 cc1_scoped2 k f f₁ f₂) $$ H
  iintro H HR
  unfold loopInv
  isplitl [H]; · iexact H
  have e : ∀ (m : Memref sig .scVector .vmem S4096 .f32) (G : Fin 256 → Fin 16 → F .f32) (f₀ : S4096.Idx → F .f32),
      rowPts (F := F) d L m G f₀ (tt k).val 16 = rowPts d L m G f₀ (k.val + 1) 0 := fun m G f₀ => by
    unfold rowPts; rw [stage_next]; rfl
  rw [e, e]; iexact HR

/-- What the task holds: its columns of the logits, its words of the mask and of the weights. -/
abbrev lPts (x : S16x8192.Idx → F .f32) : sProp 𝕄 := (lK L).view.loc (V d (cV L) (jV L)) ↦[(lK L).view.set]{fullShare} x
abbrev mPts (f : S131072.Idx → F .f32) : sProp 𝕄 := (mK L).view.loc (V d (cV L) (jV L)) ↦[(mK L).view.set]{fullShare} f
abbrev wPts (f : S131072.Idx → F .f32) : sProp 𝕄 := (wK L).view.loc (V d (cV L) (jV L)) ↦[(wK L).view.set]{fullShare} f

/-- The copies out leave the launch's mask and weights at the task's words. -/
theorem mask_pts (x : S16x8192.Idx → F .f32) (m₀ : S131072.Idx → F .f32) (w : S4096.Idx → F .f32) (hw : ∀ y, w y = GM (mine L x) (tokOf y) (expOf y)) :
    mPts d L ((mK L).view.writes (Elt F) m₀ [⟨Rect.whole S4096, w⟩]) = mPts d L (maskOut x) := by
  have h : ∀ y : S4096.Idx, (mK L).view.read (Elt F) ((mK L).view.writes (Elt F) m₀ [⟨Rect.whole S4096, w⟩]) y = w y := fun y => by
    have h := View.read_writes_cons_emb (Val := Elt F) (v := (mK L).view) (f := m₀) (Rect.whole S4096) w [] y
    rwa [show (Rect.whole S4096).emb y = y from Rect.emb_whole_apply _ _] at h
  generalize (mK L).view.writes (Elt F) m₀ [⟨Rect.whole S4096, w⟩] = g at h
  refine pointsTo_congr fun i hi => ?_
  obtain ⟨y, -, rfl⟩ := Finset.mem_map.mp hi
  exact (h y).trans ((hw y).trans (mask_out L x y))
theorem weight_pts (x : S16x8192.Idx → F .f32) (w₀ : S131072.Idx → F .f32) (w : S4096.Idx → F .f32) (hw : ∀ y, w y = GW (mine L x) (tokOf y) (expOf y)) :
    wPts d L ((wK L).view.writes (Elt F) w₀ [⟨Rect.whole S4096, w⟩]) = wPts d L (weightOut x) := by
  have h : ∀ y : S4096.Idx, (wK L).view.read (Elt F) ((wK L).view.writes (Elt F) w₀ [⟨Rect.whole S4096, w⟩]) y = w y := fun y => by
    have h := View.read_writes_cons_emb (Val := Elt F) (v := (wK L).view) (f := w₀) (Rect.whole S4096) w [] y
    rwa [show (Rect.whole S4096).emb y = y from Rect.emb_whole_apply _ _] at h
  generalize (wK L).view.writes (Elt F) w₀ [⟨Rect.whole S4096, w⟩] = g at h
  refine pointsTo_congr fun i hi => ?_
  obtain ⟨y, -, rfl⟩ := Finset.mem_map.mp hi
  exact (h y).trans ((hw y).trans (weight_out L x y))

set_option maxHeartbeats 4000000 in
/-- The task of a vector subcore: it leaves the launch's mask and weights at its words. -/
theorem tile_body (hF : (K (F := F)).Facts) (x : S16x8192.Idx → F .f32) (m₀ w₀ : S131072.Idx → F .f32) (O : CellTallies nD τ sig (HIx 1)) (W : Waits sig (HIx 1)) (hO : ∀ g, O g none = 0) :
    iprop(levAts (K (F := F)).L (K (F := F)).lev ∗ emp
        ∗ (lPts d L x ∗ mPts d L m₀ ∗ wPts d L w₀)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__gate_sc_body (F := F) L hL (Memref.isWhole_whole _) hM (Memref.isWhole_whole _) hW (Memref.isWhole_whole _)
            lg (Memref.isWhole_whole _) mk (Memref.isWhole_whole _) wt (Memref.isWhole_whole _) cc1_scoped0 cc1_scoped1 cc1_scoped2)
          fun _ => iprop((lPts d L x ∗ mPts d L (maskOut x) ∗ wPts d L (weightOut x))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1__gate_sc_body_eq_skeleton]; unfold cc1__gate_sc_body_skel
  rw [(K (F := F)).scopedBufs_V hF d (cV L) (jV L), SparseCore.Cfg.scopedSems0_V (Val := Elt F) d (cV L) (jV L), ownSems0_V, ownBufs_V]
  iintro ⟨#Hlv, -, ⟨Hl, Hm, Hw⟩, ⟨⟨%f₀, H0⟩, ⟨%f₁, H1⟩, ⟨%f₂, H2⟩, Hbufs⟩, ⟨Hs0, Hs1, Hs2, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave H0' := (show ((V d (cV L) (jV L)).loc cc1_scratch0 ↦{fullShare} f₀ : sProp 𝕄) ⊢ ((lg).view.loc (V d (cV L) (jV L)) ↦{fullShare} f₀ : sProp 𝕄) from .rfl) $$ H0
  ihave H1' := (show ((V d (cV L) (jV L)).loc cc1_scratch1 ↦{fullShare} f₁ : sProp 𝕄) ⊢ ((mk).view.loc (V d (cV L) (jV L)) ↦{fullShare} f₁ : sProp 𝕄) from .rfl) $$ H1
  ihave H2' := (show ((V d (cV L) (jV L)).loc cc1_scratch2 ↦{fullShare} f₂ : sProp 𝕄) ⊢ ((wt).view.loc (V d (cV L) (jV L)) ↦{fullShare} f₂ : sProp 𝕄) from .rfl) $$ H2
  sl_exec
  ihave H0 := (Entails.of_eq (show ((lg).view.loc (V d (cV L) (jV L)) ↦{fullShare} View.write (Elt F) (lg).view f₀ (tile_body.sl.dma0 L x) Finset.univ : sProp 𝕄)
      = lgPts d L (mine L x) by rw [View.write_whole_univ]; rfl)) $$ H0'
  ihave H1 := (row_start1 (F := F) d L (GM (mine L x)) f₁) $$ H1'
  ihave H2 := (row_start2 (F := F) d L (GW (mine L x)) f₂) $$ H2'
  iapply (Scf.wp_for_bind frame (wpE (defs₀ (F := F)) 𝒱₀ (V d (cV L) (jV L)) none) Set.univ _ _ _ k1_t1_ok PUnit.unit _
    (loopInv d L (mine L x) f₁ f₂) (loop_step d L (mine L x) f₁ f₂)) $$ [H0 H1 H2]
  · unfold loopInv
    isplitl [H0]; · iexact H0
    isplitl [H1]; · iexact H1
    iexact H2
  iintro %acc HI
  ihave HI := (show loopInv d L (mine L x) f₁ f₂ (Scf.trips k1_t1_loop.lb k1_t1_loop.ub k1_t1_loop.st) acc ⊢ iprop(lgPts d L (mine L x) ∗ rowPts d L mk (GM (mine L x)) f₁ 16 0 ∗ rowPts d L wt (GW (mine L x)) f₂ 16 0) from .rfl) $$ HI
  icases HI with ⟨H0, H1, H2⟩
  ihave H1 := (row_end1 (F := F) d L (GM (mine L x)) f₁) $$ H1
  ihave H2 := (row_end2 (F := F) d L (GW (mine L x)) f₂) $$ H2
  sl_exec
  sl_step
  isplitl [Hl Hm Hw]
  · isplitl [Hl]; · iexact Hl
    isplitl [Hm]
    · iapply (Entails.of_eq (mask_pts d L x m₀ (tile_body.sl.dma0_1 L x) (fun _ => rfl))); iexact Hm
    iapply (Entails.of_eq (weight_pts d L x w₀ (tile_body.sl.dma0_2 L x) (fun _ => rfl))); iexact Hw
  isplitl [H0 H1 H2 Hbufs]
  · isplitl [H0]; · iexists _; iexact H0
    isplitl [H1]; · iexists _; iexact H1
    isplitl [H2]; · iexists _; iexact H2
    iexact Hbufs
  isplitl [Hs0 Hs1 Hs2 Hsems]
  · isplitl [Hs0]; · iexact Hs0
    isplitl [Hs1]; · iexact Hs1
    isplitl [Hs2]; · iexact Hs2
    iexact Hsems
  iexists _; isplitr
  swap; · iexact HO
  ipureintro; intro p hp
  simp only [Finset.mem_insert] at hp
  rcases hp with hp | hp | hp | hp
  · exact .inr (hp ▸ rfl)
  · exact .inr (hp ▸ rfl)
  · exact .inr (hp ▸ rfl)
  · exact .inl hp

end Body

end Cert.Proof.Gate

end
-- ==== Proof.Split.lean ====
/-
  The call of the SparseCore kernel: what it takes, how the two cores and their sixteen subcores share it, and each subcore's obligation.
-/
module

public import proofs.«01_k».proof.Proof.Body

@[expose] public section

noncomputable section

namespace Cert.Proof.Gate

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "lg" => (Memref.whole Cert.KernelIdeal.cc1_scratch0 : Memref Cert.KernelIdeal.sig Kind.scVector Space.vmem Cert.KernelIdeal.S16x256 EltTy.f32)
local notation "mk" => (Memref.whole Cert.KernelIdeal.cc1_scratch1 : Memref Cert.KernelIdeal.sig Kind.scVector Space.vmem Cert.KernelIdeal.S4096 EltTy.f32)
local notation "wt" => (Memref.whole Cert.KernelIdeal.cc1_scratch2 : Memref Cert.KernelIdeal.sig Kind.scVector Space.vmem Cert.KernelIdeal.S4096 EltTy.f32)
local notation "hL" => (Memref.whole Cert.KernelIdeal.main_v1_scv : Memref Cert.KernelIdeal.sig Kind.scVector Space.hbm Cert.KernelIdeal.S16x8192 EltTy.f32)
local notation "hM" => (Memref.whole Cert.KernelIdeal.main_v2_0_scv : Memref Cert.KernelIdeal.sig Kind.scVector Space.hbm Cert.KernelIdeal.S131072 EltTy.f32)
local notation "hW" => (Memref.whole Cert.KernelIdeal.main_v2_1_scv : Memref Cert.KernelIdeal.sig Kind.scVector Space.hbm Cert.KernelIdeal.S131072 EltTy.f32)

/-! ## The tasks' sets -/

/-- The task of core `c`, subcore `s`. -/
def coordsV (c : Fin (grid1.bound 0)) (s : Fin (grid1.bound 1)) : grid1.Coords :=
  fun | 0 => c | 1 => s | ⟨_ + 2, h⟩ => absurd h (Nat.not_lt.2 (Nat.le_add_left _ _))
/-- The tasks, by core and subcore. -/
abbrev task (p : Fin 2 × Fin 16) : grid1.Coords := coordsV p.1 p.2

/-- The logits, the mask and the weights in device memory. -/
abbrev lLoc (d : Dev nD) : Loc nD τ sig := (d.tc : Thread nD τ).loc main_v1
abbrev mLoc (d : Dev nD) : Loc nD τ sig := (d.tc : Thread nD τ).loc main_v2_0
abbrev wLoc (d : Dev nD) : Loc nD τ sig := (d.tc : Thread nD τ).loc main_v2_1

/-- A task's columns of the logits; its words of a flat result. -/
def lSet (p : Fin 2 × Fin 16) : Finset S16x8192.Idx := (inR (task p)).set
def oSet (p : Fin 2 × Fin 16) : Finset S131072.Idx := (outR (task p)).set

theorem mem_lSet (p : Fin 2 × Fin 16) (y : S16x8192.Idx) : y ∈ lSet p ↔ 512 * p.2.val + 256 * p.1.val ≤ (y 1).val ∧ (y 1).val < 512 * p.2.val + 256 * p.1.val + 256 := by
  unfold lSet
  rw [Rect.mem_set_unit, k1_off1_eq]
  refine ⟨fun h => h 1, fun h a => ?_⟩
  match a with
  | 0 => exact ⟨Nat.zero_le _, by have := (y 0).isLt; change (y 0).val < 16 at this; show (y 0).val < 0 + 16; omega⟩
  | 1 => exact h
theorem mem_oSet (p : Fin 2 × Fin 16) (y : S131072.Idx) : y ∈ oSet p ↔ 8192 * p.2.val + 4096 * p.1.val ≤ (y 0).val ∧ (y 0).val < 8192 * p.2.val + 4096 * p.1.val + 4096 := by
  unfold oSet
  rw [Rect.mem_set_unit, k1_off18_eq]
  refine ⟨fun h => h 0, fun h a => ?_⟩
  match a with
  | 0 => exact h

theorem lSet_disjoint : ∀ p ∈ (Finset.univ : Finset (Fin 2 × Fin 16)), ∀ q ∈ (Finset.univ : Finset (Fin 2 × Fin 16)), p ≠ q → Disjoint (lSet p) (lSet q) := by
  intro p _ q _ h
  rw [Finset.disjoint_left]
  intro y hp hq
  rw [mem_lSet] at hp hq
  have := p.1.isLt; have := q.1.isLt
  exact h (Prod.ext (Fin.ext (by omega)) (Fin.ext (by omega)))
theorem oSet_disjoint : ∀ p ∈ (Finset.univ : Finset (Fin 2 × Fin 16)), ∀ q ∈ (Finset.univ : Finset (Fin 2 × Fin 16)), p ≠ q → Disjoint (oSet p) (oSet q) := by
  intro p _ q _ h
  rw [Finset.disjoint_left]
  intro y hp hq
  rw [mem_oSet] at hp hq
  have := p.1.isLt; have := q.1.isLt
  exact h (Prod.ext (Fin.ext (by omega)) (Fin.ext (by omega)))
theorem lSet_cover : (Finset.univ : Finset (Fin 2 × Fin 16)).biUnion lSet = Finset.univ := by
  ext y
  simp only [Finset.mem_biUnion, Finset.mem_univ, true_and, iff_true]
  have hy := (y 1).isLt; change (y 1).val < 8192 at hy
  refine ⟨(⟨(y 1).val % 512 / 256, by omega⟩, ⟨(y 1).val / 512, by omega⟩), ?_⟩
  rw [mem_lSet]; constructor <;> dsimp only <;> omega
theorem oSet_cover : (Finset.univ : Finset (Fin 2 × Fin 16)).biUnion oSet = Finset.univ := by
  ext y
  simp only [Finset.mem_biUnion, Finset.mem_univ, true_and, iff_true]
  have hy := (y 0).isLt; change (y 0).val < 131072 at hy
  refine ⟨(⟨(y 0).val % 8192 / 4096, by omega⟩, ⟨(y 0).val / 8192, by omega⟩), ?_⟩
  rw [mem_oSet]; constructor <;> dsimp only <;> omega

theorem set_lK (L : grid1.Coords) : (lK L).view.set = (inR L).set := by
  show ((View.whole (main_v1_scv : Ref sig .scVector)).slice (inR L)).set = _
  rw [View.set_slice]; exact Finset.map_refl
theorem set_mK (L : grid1.Coords) : (mK L).view.set = (outR L).set := by
  show ((View.whole (main_v2_0_scv : Ref sig .scVector)).slice (outR L)).set = _
  rw [View.set_slice]; exact Finset.map_refl
theorem set_wK (L : grid1.Coords) : (wK L).view.set = (outR L).set := by
  show ((View.whole (main_v2_1_scv : Ref sig .scVector)).slice (outR L)).set = _
  rw [View.set_slice]; exact Finset.map_refl

variable (X : Dev nD → S16x8192.Idx → F .f32) (M₀ W₀ : Dev nD → S131072.Idx → F .f32)

/-- What a task holds of the logits and of the results at `f` and `g`. -/
def piece (d : Dev nD) (p : Fin 2 × Fin 16) (x : S16x8192.Idx → F .f32) (f g : S131072.Idx → F .f32) : sProp 𝕄 :=
  iprop((lLoc d ↦[lSet p]{fullShare} x) ∗ (mLoc d ↦[oSet p]{fullShare} f) ∗ (wLoc d ↦[oSet p]{fullShare} g))

theorem piece_eq (d : Dev nD) (p : Fin 2 × Fin 16) (x : S16x8192.Idx → F .f32) (f g : S131072.Idx → F .f32) :
    piece d p x f g = iprop(lPts d (task p) x ∗ mPts d (task p) f ∗ wPts d (task p) g) := by
  unfold piece lPts mPts wPts
  rw [set_lK, set_mK, set_wK]; rfl

instance piece_storable (d : Dev nD) (p : Fin 2 × Fin 16) (x : S16x8192.Idx → F .f32) (f g : S131072.Idx → F .f32) :
    BI.Storable (upEmb : UEmb _ 𝕄) (piece d p x f g) := by unfold piece; infer_instance

/-- The three arrays whole are the tasks' pieces. -/
theorem whole_pieces (d : Dev nD) (x : S16x8192.Idx → F .f32) (f g : S131072.Idx → F .f32) :
    (iprop((lLoc d ↦{fullShare} x) ∗ (mLoc d ↦{fullShare} f) ∗ (wLoc d ↦{fullShare} g)) : sProp 𝕄)
      = bigSep Finset.univ fun c : Fin 2 => bigSep Finset.univ fun i : Fin 16 => piece d (c, i) x f g := by
  have h1 : (lLoc d ↦{fullShare} x : sProp 𝕄) = bigSep Finset.univ fun p : Fin 2 × Fin 16 => lLoc d ↦[lSet p]{fullShare} x := by
    rw [← pointsTo_biUnion Finset.univ (ℓ := lLoc d) lSet lSet_disjoint, lSet_cover]; try rfl
  have h2 : (mLoc d ↦{fullShare} f : sProp 𝕄) = bigSep Finset.univ fun p : Fin 2 × Fin 16 => mLoc d ↦[oSet p]{fullShare} f := by
    rw [← pointsTo_biUnion Finset.univ (ℓ := mLoc d) oSet oSet_disjoint, oSet_cover]; try rfl
  have h3 : (wLoc d ↦{fullShare} g : sProp 𝕄) = bigSep Finset.univ fun p : Fin 2 × Fin 16 => wLoc d ↦[oSet p]{fullShare} g := by
    rw [← pointsTo_biUnion Finset.univ (ℓ := wLoc d) oSet oSet_disjoint, oSet_cover]; try rfl
  rw [h1, h2, h3, ← bigSep_sep', ← bigSep_sep']
  show (bigSep Finset.univ fun p : Fin 2 × Fin 16 => piece d p x f g) = _
  rw [bigSep_univ_equiv (Equiv.sigmaEquivProd (Fin 2) (Fin 16)) (fun p => piece d p x f g), Pipeline.bigSep_univ_sigma]
  rfl

/-! ## What the handshakes carry -/

/-- A core takes its tasks' pieces and hands them back, the results at the gate of the logits. -/
def P : (K (F := F)).Pay (nD := nD) (Val := Elt F) (Name := ℕ) (U := UU) where
  st := fun q d c => match q with | 0 => bigSep Finset.univ fun i : Fin 16 => piece d (Fin.cast nCore_two c, i) (X d) (M₀ d) (W₀ d)
  dn := fun q d c => match q with | 0 => bigSep Finset.univ fun i : Fin 16 => piece d (Fin.cast nCore_two c, i) (X d) (maskOut (X d)) (weightOut (X d))
  go := fun q d c i => match q with | 0 => piece d (Fin.cast nCore_two c, Fin.cast nSub_sixteen i) (X d) (M₀ d) (W₀ d)
  td := fun q d c i => match q with | 0 => piece d (Fin.cast nCore_two c, Fin.cast nSub_sixteen i) (X d) (maskOut (X d)) (weightOut (X d))
  x := fun _ _ => iprop(emp)

instance P_storable : (P (F := F) X M₀ W₀).IsStorable where
  st q d c := match q with
    | 0 => (inferInstance : BI.Storable (upEmb : UEmb _ 𝕄) (bigSep Finset.univ fun i : Fin 16 => piece d (Fin.cast nCore_two c, i) (X d) (M₀ d) (W₀ d)))
  dn q d c := match q with
    | 0 => (inferInstance : BI.Storable (upEmb : UEmb _ 𝕄) (bigSep Finset.univ fun i : Fin 16 => piece d (Fin.cast nCore_two c, i) (X d) (maskOut (X d)) (weightOut (X d))))
  go q d c i := match q with
    | 0 => (inferInstance : BI.Storable (upEmb : UEmb _ 𝕄) (piece d (Fin.cast nCore_two c, Fin.cast nSub_sixteen i) (X d) (M₀ d) (W₀ d)))
  td q d c i := match q with
    | 0 => (inferInstance : BI.Storable (upEmb : UEmb _ 𝕄) (piece d (Fin.cast nCore_two c, Fin.cast nSub_sixteen i) (X d) (maskOut (X d)) (weightOut (X d))))

/-! ## The obligation -/

theorem defs₀_vector (c : Fin τ.nSC) (s : Fin τ.nSub) :
    defs₀ (F := F) (.scVector c s) 1 ()
      = SparseCore.onTile hcore1 hsub1 (fun c s => cc1__gate_sc_body (F := F) (coordsV c s)
          hL (Memref.isWhole_whole _) hM (Memref.isWhole_whole _) hW (Memref.isWhole_whole _)
          lg (Memref.isWhole_whole _) mk (Memref.isWhole_whole _) wt (Memref.isWhole_whole _) cc1_scoped0 cc1_scoped1 cc1_scoped2) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every task meets its obligation. -/
theorem tileObl (hF : (K (F := F)).Facts) : (K (F := F)).TileObl (D (F := F)) 𝒱 (P X M₀ W₀) v₀ 0 := by
  intro d c i O W hO _ _
  simp only [show (P X M₀ W₀).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  show iprop(_ ∗ _ ∗ piece d (Fin.cast nCore_two c, Fin.cast nSub_sixteen i) (X d) (M₀ d) (W₀ d) ∗ _) ⊢ wp _ _ _ _ fun _ => iprop(piece d (Fin.cast nCore_two c, Fin.cast nSub_sixteen i) (X d) (maskOut (X d)) (weightOut (X d)) ∗ _)
  rw [piece_eq, piece_eq]
  exact (tile_body d (coordsV ⟨_, hci.1⟩ ⟨_, hci.2⟩) hF (X d) (M₀ d) (W₀ d) O W hO).trans (wp_mono frame _ _ fun _ => obl_post)

theorem bigSep_tasks (Φ : Fin 16 → sProp 𝕄) :
    (bigSep Finset.univ fun i : Fin ((K (F := F)).nSub 0) => Φ (Fin.cast nSub_sixteen i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_two c)) = bigSep Finset.univ Φ :=
  bigSep_congr fun _ _ => congrArg Φ (Fin.ext rfl)

/-- A core's pieces are its tasks'. -/
theorem vecSplit : (K (F := F)).VecSplit' (P X M₀ W₀) 0 := by
  intro d c
  show (bigSep Finset.univ fun i : Fin 16 => piece d (Fin.cast nCore_two c, i) (X d) (M₀ d) (W₀ d)) ⊢ |={Set.univ}=> iprop(
      (bigSep Finset.univ fun i : Fin ((K (F := F)).nSub 0) => piece d (Fin.cast nCore_two c, Fin.cast nSub_sixteen i) (X d) (M₀ d) (W₀ d))
      ∗ ((bigSep Finset.univ fun i : Fin ((K (F := F)).nSub 0) => piece d (Fin.cast nCore_two c, Fin.cast nSub_sixteen i) (X d) (maskOut (X d)) (weightOut (X d)))
          -∗ (bigSep Finset.univ fun i : Fin 16 => piece d (Fin.cast nCore_two c, i) (X d) (maskOut (X d)) (weightOut (X d)))))
  rw [bigSep_tasks (F := F) (fun i => piece d (Fin.cast nCore_two c, i) (X d) (M₀ d) (W₀ d)),
    bigSep_tasks (F := F) (fun i => piece d (Fin.cast nCore_two c, i) (X d) (maskOut (X d)) (weightOut (X d)))]
  iintro H; imodintro
  isplitl [H]; · iexact H
  iintro H; iexact H

/-- The call takes the three arrays whole, -/
theorem st_eq (d : Dev nD) : (bigSep Finset.univ fun c : Fin ((K (F := F)).nCore 0) => (P X M₀ W₀).st 0 d c)
    = iprop((lLoc d ↦{fullShare} X d) ∗ (mLoc d ↦{fullShare} M₀ d) ∗ (wLoc d ↦{fullShare} W₀ d)) := by
  rw [whole_pieces]
  exact bigSep_cores (F := F) fun c => bigSep Finset.univ fun i : Fin 16 => piece d (c, i) (X d) (M₀ d) (W₀ d)
/-- and hands them back, the results at the gate of the logits. -/
theorem dn_eq (d : Dev nD) : (bigSep Finset.univ fun c : Fin ((K (F := F)).nCore 0) => (P X M₀ W₀).dn 0 d c)
    = iprop((lLoc d ↦{fullShare} X d) ∗ (mLoc d ↦{fullShare} maskOut (X d)) ∗ (wLoc d ↦{fullShare} weightOut (X d))) := by
  rw [whole_pieces]
  exact bigSep_cores (F := F) fun c => bigSep Finset.univ fun i : Fin 16 => piece d (c, i) (X d) (maskOut (X d)) (weightOut (X d))

end Cert.Proof.Gate

end
-- ==== Proof.Region.lean ====
/-
  The TensorCore's call: one run of its body at every point of the grid, the pipeline's proof data, and the call as a region
  that leaves the logits, block by block, in the array that the SparseCore reads.
-/
module

public import proofs.«01_k».proof.Proof.Split
public import proofs.«01_k».proof.Proof.Gen.KernelIdeal.Launch
public import proofs.«01_k».proof.Proof.Gen.KernelIdeal.Points
public import Idealize.ShloMosaic.Lib.Pipeline.FrameBody
public import Idealize.ShloMosaic.Lib.Pipeline.Frame
public import Idealize.ShloMosaic.Lib.Pipeline.Value
public import Idealize.ShloMosaic.Lib.Pipeline.ValueKit.Geometry
public import Idealize.ShloMosaic.Lib.Pipeline.Regions

@[expose] public section

noncomputable section

namespace Cert.Proof.Gate

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "lg" => (Memref.whole Cert.KernelIdeal.cc1_scratch0 : Memref Cert.KernelIdeal.sig Kind.scVector Space.vmem Cert.KernelIdeal.S16x256 EltTy.f32)
local notation "mk" => (Memref.whole Cert.KernelIdeal.cc1_scratch1 : Memref Cert.KernelIdeal.sig Kind.scVector Space.vmem Cert.KernelIdeal.S4096 EltTy.f32)
local notation "wt" => (Memref.whole Cert.KernelIdeal.cc1_scratch2 : Memref Cert.KernelIdeal.sig Kind.scVector Space.vmem Cert.KernelIdeal.S4096 EltTy.f32)
local notation "hL" => (Memref.whole Cert.KernelIdeal.main_v1_scv : Memref Cert.KernelIdeal.sig Kind.scVector Space.hbm Cert.KernelIdeal.S16x8192 EltTy.f32)
local notation "hM" => (Memref.whole Cert.KernelIdeal.main_v2_0_scv : Memref Cert.KernelIdeal.sig Kind.scVector Space.hbm Cert.KernelIdeal.S131072 EltTy.f32)
local notation "hW" => (Memref.whole Cert.KernelIdeal.main_v2_1_scv : Memref Cert.KernelIdeal.sig Kind.scVector Space.hbm Cert.KernelIdeal.S131072 EltTy.f32)

/-! ## One run of the TensorCore's body -/

/-- One run of the TensorCore's body over four whole buffers: the three operands are left as they were, and the result holds the
    payload of the operands, whatever it held. -/
theorem logits_run (d : Dev nD) (i : grid0.Coords)
    (a1 : Memref sig .tc .vmem S16x2048 .f32) (h1 : a1.IsWhole) (a2 : Memref sig .tc .vmem S512x2048 .f32) (h2 : a2.IsWhole)
    (a3 : Memref sig .tc .vmem S16x1 .f32) (h3 : a3.IsWhole) (a4 : Memref sig .tc .vmem S16x512 .f32) (h4 : a4.IsWhole)
    (w : S16x2048.Idx → F .f32) (x : S512x2048.Idx → F .f32) (b : S16x1.Idx → F .f32) (o : S16x512.Idx → F .f32)
    (Φ : PUnit → sProp 𝕄) :
    iprop(owns (d.tc : Thread nD τ) a1 fullShare w ∗ owns (d.tc : Thread nD τ) a2 fullShare x ∗ owns (d.tc : Thread nD τ) a3 fullShare b
        ∗ owns (d.tc : Thread nD τ) a4 fullShare o
        ∗ ((owns (d.tc : Thread nD τ) a1 fullShare w ∗ owns (d.tc : Thread nD τ) a2 fullShare x ∗ owns (d.tc : Thread nD τ) a3 fullShare b
        ∗ owns (d.tc : Thread nD τ) a4 fullShare (k0_pay1 w x b)) -∗ Φ ⟨⟩))
      ⊢ wp frame (wpE (defs₀ (F := F)) 𝒱₀ (d.tc : Thread nD τ) none) Set.univ
          (cc0__logits_tc_body (F := F) i a1 h1 a2 h2 a3 h3 a4 h4) Φ := by
  have hz : (![0, 0] : Fin 2 → ℕ) = fun _ => 0 := by funext a; fin_cases a <;> rfl
  rw [cc0__logits_tc_body_eq_skeleton]; unfold cc0__logits_tc_body_skel
  unfold owns
  iintro ⟨⟨%f1, %e1, H1⟩, ⟨%f2, %e2, H2⟩, ⟨%f3, %e3, H3⟩, ⟨%f4, -, H4⟩, HΦ⟩
  sl_exec
  sl_step
  iapply HΦ
  isplitl [H1]
  · iexists f1; isplitr
    · ipureintro; exact e1
    iexact H1
  isplitl [H2]
  · iexists f2; isplitr
    · ipureintro; exact e2
    iexact H2
  isplitl [H3]
  · iexists f3; isplitr
    · ipureintro; exact e3
    iexact H3
  iexists _; isplitr
  swap
  · iexact H4
  ipureintro
  have r1 : View.readAt (Elt F) a1.view (Rect.unit (s := S16x2048) ![0, 0] S16x2048.size inb_S16x2048_S16x2048_0_0).toLoadRect f1 = w :=
    (congrArg (fun X => View.ld X (Rect.unit (s := S16x2048) ![0, 0] S16x2048.size inb_S16x2048_S16x2048_0_0)) e1).trans
      (View.ld_unit_zero (Val := Elt F) (e := .f32) (S := S16x2048) hz inb_S16x2048_S16x2048_0_0 w)
  have r2 : View.readAt (Elt F) a2.view (Rect.unit (s := S512x2048) ![0, 0] S512x2048.size inb_S512x2048_S512x2048_0_0).toLoadRect f2 = x :=
    (congrArg (fun X => View.ld X (Rect.unit (s := S512x2048) ![0, 0] S512x2048.size inb_S512x2048_S512x2048_0_0)) e2).trans
      (View.ld_unit_zero (Val := Elt F) (e := .f32) (S := S512x2048) hz inb_S512x2048_S512x2048_0_0 x)
  have r3 : View.readAt (Elt F) a3.view (Rect.unit (s := S16x1) ![0, 0] S16x1.size inb_S16x1_S16x1_0_0).toLoadRect f3 = b :=
    (congrArg (fun X => View.ld X (Rect.unit (s := S16x1) ![0, 0] S16x1.size inb_S16x1_S16x1_0_0)) e3).trans
      (View.ld_unit_zero (Val := Elt F) (e := .f32) (S := S16x1) hz inb_S16x1_S16x1_0_0 b)
  erw [r1, r2, r3]
  funext y
  have e := View.read_writes_cons_emb (Val := Elt F) a4.view f4 (Rect.unit (s := S16x512) ![0, 0] S16x512.size inb_S16x512_S16x512_0_0) (k0_pay1 w x b) [] y
  have hy : (Rect.unit (s := S16x512) ![0, 0] S16x512.size inb_S16x512_S16x512_0_0).emb y = y := by
    funext a; apply Fin.ext
    fin_cases a
    · show 0 + 1 * (y 0).val = _
      simp
    · show 0 + 1 * (y 1).val = _
      simp
  rw [hy] at e
  exact e

/-! ## The pipeline's proof data -/

variable (V : (d : Dev nD) → (b : Ref sig .tc) → Buf (Elt F) ((d.tc : Thread nD τ).loc b))

/-- The TensorCore's weights, tokens and biases at the call's entry. -/
abbrev wIn (d : Dev nD) : S16x2048.Idx → F .f32 := V d main_arg1
abbrev xIn (d : Dev nD) : S8192x2048.Idx → F .f32 := V d main_arg0
abbrev bIn (d : Dev nD) : S16x1.Idx → F .f32 := V d main_v0

/-- The tokens of block `n`. -/
def rows (x : S8192x2048.Idx → F .f32) (n : Fin 16) : S512x2048.Idx → F .f32 :=
  fun z => x fun a => match a with
    | 0 => ⟨512 * n.val + (z 0).val, by have := n.isLt; have := (z 0).isLt; change (z 0).val < 512 at this; show _ < 8192; omega⟩
    | 1 => ⟨(z 1).val, (z 1).isLt⟩

/-- The proof data: each operand's block stays as it was fetched, the result's holds the payload; the handshakes owed do not change. -/
def dat (d : Dev nD) : Pipeline.Dat τ (Elt F) (HIx 1) ℕ UU ℕ cfg0 d where
  A w := V d (Pipeline.arrRef spec0 w)
  after w t := match w with
    | ⟨0, _⟩ => wIn V d
    | ⟨1, _⟩ => rows (xIn V d) t
    | ⟨2, _⟩ => bIn V d
    | ⟨3, _⟩ => k0_pay1 (wIn V d) (rows (xIn V d) t) (bIn V d)
  Φ _ := Pipeline.scopedRest (Ix := HIx 1) (Name := ℕ) (U := UU) (Lvl := ℕ) (Val := Elt F) spec0 d
  q _ := fullShare
  owed _ := (K (F := F)).Otc d 0
  recorded _ := {p | (K (F := F)).lev ((d.tc : Thread nD τ), p.1) p.2 ≤ 0}

/-- The weights are whole in their buffer at every point. -/
theorem before_0 (d : Dev nD) (t : Fin cfg0.N) (g) : (dat V d).before 0 t g = wIn V d := by
  have hb : ∀ t, (dat V d).blockOf 0 t = wIn V d := fun t => by
    funext y
    show V d main_arg1 _ = V d main_arg1 _
    congr 1
    funext a; apply Fin.ext
    fin_cases a
    · show 0 * 16 + 1 * (y 0).val = _
      simp
    · show 0 * 2048 + 1 * (y 1).val = _
      simp
  rw [(dat V d).before_in_eq_fetched 0 rfl (fun _ => rfl) (fun _ _ _ => rfl) (fun t => (hb t).symm) t g]
  exact hb t

/-- The biases are whole in their buffer at every point. -/
theorem before_2 (d : Dev nD) (t : Fin cfg0.N) (g) : (dat V d).before 2 t g = bIn V d := by
  have hb : ∀ t, (dat V d).blockOf 2 t = bIn V d := fun t => by
    funext y
    show V d main_v0 _ = V d main_v0 _
    congr 1
    funext a; apply Fin.ext
    fin_cases a
    · show 0 * 16 + 1 * (y 0).val = _
      simp
    · show 0 * 1 + 1 * (y 1).val = _
      simp
  rw [(dat V d).before_in_eq_fetched 2 rfl (fun _ => rfl) (fun _ _ _ => rfl) (fun t => (hb t).symm) t g]
  exact hb t

/-- The grid's only coordinate is the point's number. -/
theorem coord_nat (t : Fin cfg0.N) : (BitVec.ofNat 32 ((grid0.coords t) 0).val).toNat = t.val := by
  revert t; decide

/-- Point `t` finds block `t` of the tokens in its buffer. -/
theorem before_1 (d : Dev nD) (t : Fin cfg0.N) (g) : (dat V d).before 1 t g = rows (xIn V d) t := by
  rw [(dat V d).before_fetched 1 t (fetch0_1 t)]
  funext y
  show V d main_arg0 _ = V d main_arg0 _
  congr 1
  funext a; apply Fin.ext
  fin_cases a
  · show ((cc0_transform_1 (grid0.coords t)) 0) * 512 + 1 * (y 0).val = 512 * t.val + (y 0).val
    show (BitVec.ofNat 32 ((grid0.coords t) 0).val).toNat * 512 + 1 * (y 0).val = 512 * t.val + (y 0).val
    rw [coord_nat]; omega
  · show 0 * 2048 + 1 * (y 1).val = _
    simp

/-- The body's obligation at every point. -/
theorem body_obligation (d : Dev nD) : Pipeline.BodyObligation (dat V d) (defs₀ (F := F)) 𝒱₀ none Set.univ := fun t => by
  rw [bigSep_W0, bigSep_W0]
  simp only []
  rw [show (dat V d).Φ t.succ = (dat V d).Φ t.castSucc from rfl,
    show (dat V d).owesAt none t.succ = (dat V d).owesAt none t.castSucc from rfl]
  iintro ⟨HΦ, Howes, ⟨%d0, H0⟩, ⟨%d1, H1⟩, ⟨%d2, H2⟩, ⟨%d3, H3⟩⟩
  rw [before_0, before_1, before_2]
  iapply (logits_run d (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3)))
  isplitl [H0]; · iexact H0
  isplitl [H1]; · iexact H1
  isplitl [H2]; · iexact H2
  isplitl [H3]; · iexact H3
  iintro ⟨H0, H1, H2, H3⟩
  isplitl [HΦ]; · iexact HΦ
  isplitl [Howes]; · iexact Howes
  isplitl [H0]; · iexact H0
  isplitl [H1]; · iexact H1
  isplitl [H2]; · iexact H2
  iexact H3

/-- The logits the call leaves: at expert `e` and token `n`, the payload of the token's block. -/
def logits (w : S16x2048.Idx → F .f32) (x : S8192x2048.Idx → F .f32) (b : S16x1.Idx → F .f32) : S16x8192.Idx → F .f32 := fun y =>
  k0_pay1 w (rows x ⟨(y 1).val / 512, by have := (y 1).isLt; change (y 1).val < 8192 at this; omega⟩) b fun a => match a with
    | 0 => ⟨(y 0).val, (y 0).isLt⟩
    | 1 => ⟨(y 1).val % 512, by show _ < 512; omega⟩

/-- The result's array after the last point holds the logits. -/
theorem arrAt_logits (d : Dev nD) : (dat V d).arrAt 3 cfg0.N = logits (wIn V d) (xIn V d) (bIn V d) := by
  refine (dat V d).arrAt_eq_of_covers 3 _ (by decide +kernel) fun t hf y => ?_
  show k0_pay1 (wIn V d) (rows (xIn V d) t) (bIn V d) _ = logits (wIn V d) (xIn V d) (bIn V d) (((cfg0.win 3).blk t).view.emb y)
  have h0 : ((((cfg0.win 3).blk t).view.emb y) 0).val = (y 0).val := by
    show 0 * 16 + 1 * (y 0).val = _
    simp
  have h1 : ((((cfg0.win 3).blk t).view.emb y) 1).val = 512 * t.val + (y 1).val := by
    show (BitVec.ofNat 32 ((grid0.coords t) 0).val).toNat * 512 + 1 * (y 1).val = _
    rw [coord_nat]; omega
  have hy : (y 1).val < 512 := (y 1).isLt
  have ht : (⟨((((cfg0.win 3).blk t).view.emb y) 1).val / 512, by rw [h1]; have := t.isLt; change t.val < 16 at this; omega⟩ : Fin 16) = t := by
    apply Fin.ext; show _ / 512 = _; rw [h1]; omega
  unfold logits
  rw [ht]
  congr 1
  funext a; apply Fin.ext
  fin_cases a
  · exact h0.symm
  · show (y 1).val = _ % 512
    rw [h1]; omega

/-! ## The call as a region -/

/-- The only pipeline takes no tables. -/
abbrev adm : (p : Fin 1) → (pcfgs (F := F) p).Adm := fun p => (cfgs p).toPCfg_adm

/-- The proof data of the only pipeline. -/
def pdats : (p : Fin 1) → (d : Dev nD) → Pipeline.Dat τ (Elt F) (HIx 1) ℕ UU ℕ (Pipeline.pin (pcfgs (F := F)) adm p) d
  | ⟨0, _⟩ => fun d => dat V d

/-- The four windowed arrays, one by one. -/
theorem arrays_eq (d : Dev nD) (w : S16x2048.Idx → F .f32) (x : S8192x2048.Idx → F .f32) (b : S16x1.Idx → F .f32) (o : S16x8192.Idx → F .f32)
    (G : (w : Fin cfg0.W) → Buf (Elt F) ((cfg0.win w).arr.view.loc (d.tc : Thread nD τ)))
    (h0 : G 0 = w) (h1 : G 1 = x) (h2 : G 2 = b) (h3 : G 3 = o) :
    ((dat V d).arrays G : sProp 𝕄)
      = iprop(((d.tc : Thread nD τ).loc main_arg1 ↦{fullShare} w) ∗ ((d.tc : Thread nD τ).loc main_arg0 ↦{fullShare} x)
        ∗ ((d.tc : Thread nD τ).loc main_v0 ↦{fullShare} b) ∗ ((d.tc : Thread nD τ).loc main_v1 ↦{fullShare} o)) := by
  subst h0 h1 h2 h3
  unfold Pipeline.Dat.arrays
  rw [bigSep_W0]
  rw [show (cfg0.win 0).arr.view.set = Finset.univ from View.set_whole _, show (cfg0.win 1).arr.view.set = Finset.univ from View.set_whole _,
    show (cfg0.win 2).arr.view.set = Finset.univ from View.set_whole _, show (cfg0.win 3).arr.view.set = Finset.univ from View.set_whole _]
  rfl

/-- What the TensorCore owes, its waits so far all at the bottom level. -/
abbrev debts (d : Dev nD) : sProp 𝕄 := iprop(∃ W, ⌜(K (F := F)).WBelow (d.tc : Thread nD τ) W 0⌝ ∗ owes (d.tc : Thread nD τ) ((K (F := F)).Otc d 0) W)

/-- No handshake is owed at a kernel's own index. -/
theorem Otc_none (d : Dev nD) (g : GSem nD τ sig) : (K (F := F)).Otc (N := 1) d 0 g none = 0 := by
  unfold SparseCore.Cfg.Otc
  rw [Finset.sum_apply, Finsupp.finset_sum_apply]
  refine Finset.sum_eq_zero fun q _ => ?_
  split
  · rw [Finset.sum_apply, Finsupp.finset_sum_apply]
    refine Finset.sum_eq_zero fun c _ => ?_
    rw [tallyAt_apply]
    exact if_neg fun h => nomatch h.2
  · rfl

set_option backward.isDefEq.respectTransparency.types false in
/-- The TensorCore's call as a region: entered with the operands and any result, left with the logits. -/
def reg : Pipeline.RegionSeg (pcfgs (F := F)) adm (pdats V) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody d := (body_obligation V d).loose
  hwaits d := Pipeline.cellsWaits_intro (Pipeline.pin (pcfgs (F := F)) adm) (pdats V) none 0 d fun w s t =>
    (K (F := F)).mayWait_none _ (Otc_none d)
  pre d := iprop(((d.tc : Thread nD τ).loc main_arg1 ↦{fullShare} V d main_arg1) ∗ ((d.tc : Thread nD τ).loc main_arg0 ↦{fullShare} V d main_arg0)
        ∗ ((d.tc : Thread nD τ).loc main_v0 ↦{fullShare} V d main_v0) ∗ ((d.tc : Thread nD τ).loc main_v1 ↦{fullShare} V d main_v1) ∗ debts d)
  post d := iprop(((d.tc : Thread nD τ).loc main_arg1 ↦{fullShare} V d main_arg1) ∗ ((d.tc : Thread nD τ).loc main_arg0 ↦{fullShare} V d main_arg0)
        ∗ ((d.tc : Thread nD τ).loc main_v0 ↦{fullShare} V d main_v0)
        ∗ ((d.tc : Thread nD τ).loc main_v1 ↦{fullShare} logits (wIn V d) (xIn V d) (bIn V d)) ∗ debts d)
  X _ := BI.emp
  Y _ := BI.emp
  Z _ := BI.emp
  hentry d := by
    rw [Pipeline.ownSems0_none]
    have hA := arrays_eq V d (V d main_arg1) (V d main_arg0) (V d main_v0) (V d main_v1) ((dat V d).arrAt · 0) rfl rfl rfl rfl
    iintro ⟨⟨H0, H1, H2, H3, ⟨%W, %hB, HO⟩⟩, -, -⟩
    imodintro
    isplitl [H0 H1 H2 H3]
    · rw [show pdats V 0 d = dat V d from rfl, hA]
      isplitl [H0]; · iexact H0
      isplitl [H1]; · iexact H1
      isplitl [H2]; · iexact H2
      iexact H3
    isplitr
    · unfold Pipeline.prefHeld; rw [show (Finset.univ : Finset (Fin 0)) = ∅ from rfl, BI.bigSep_empty]; iempintro
    isplitl [HO]
    · unfold Pipeline.Dat.owesAt Pipeline.owesWithin
      iexists W; isplitr
      · ipureintro; exact fun p hp => Or.inl (hB p hp)
      iexact HO
    isplitr
    · iempintro
    iempintro
  hin d := by
    rw [show (pdats V 0 d).Φ 0 = Pipeline.scopedRest spec0 d from rfl]
    iintro ⟨-, -, Hr⟩; iexact Hr
  hout d := by
    rw [Pipeline.ownSems0_none, show (pdats V 0 d).Φ (Fin.last _) = Pipeline.scopedRest spec0 d from rfl]
    iintro Hr
    isplitr; · iempintro
    isplitr; · iempintro
    iexact Hr
  hexit d := by
    have hA := arrays_eq V d (V d main_arg1) (V d main_arg0) (V d main_v0) (logits (wIn V d) (xIn V d) (bIn V d)) ((dat V d).arrAt · cfg0.N)
      ((dat V d).arrAt_in 0 rfl _) ((dat V d).arrAt_in 1 rfl _) ((dat V d).arrAt_in 2 rfl _) (arrAt_logits V d)
    rw [show (pdats V 0 d).arrays ((pdats V 0 d).arrAt · _) = (dat V d).arrays ((dat V d).arrAt · cfg0.N) from rfl, hA]
    iintro ⟨⟨H0, H1, H2, H3⟩, HO, -, -⟩
    imodintro
    isplitl [H0]; · iexact H0
    isplitl [H1]; · iexact H1
    isplitl [H2]; · iexact H2
    isplitl [H3]; · iexact H3
    unfold Pipeline.Dat.owesAt Pipeline.owesWithin
    icases HO with ⟨%W, %hB, HO⟩; iexists W; isplitr
    · ipureintro
      intro p hp
      rcases hB hp with h | ⟨w, s, rfl⟩
      · exact h
      · exact le_rfl
    iexact HO

end Cert.Proof.Gate

end
-- ==== Proof.Launch.lean ====
/-
  The launch
-/
module

public import proofs.«01_k».proof.Proof.Region

@[expose] public section

noncomputable section

namespace Cert.Proof.Gate

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "lg" => (Memref.whole Cert.KernelIdeal.cc1_scratch0 : Memref Cert.KernelIdeal.sig Kind.scVector Space.vmem Cert.KernelIdeal.S16x256 EltTy.f32)
local notation "mk" => (Memref.whole Cert.KernelIdeal.cc1_scratch1 : Memref Cert.KernelIdeal.sig Kind.scVector Space.vmem Cert.KernelIdeal.S4096 EltTy.f32)
local notation "wt" => (Memref.whole Cert.KernelIdeal.cc1_scratch2 : Memref Cert.KernelIdeal.sig Kind.scVector Space.vmem Cert.KernelIdeal.S4096 EltTy.f32)
local notation "hL" => (Memref.whole Cert.KernelIdeal.main_v1_scv : Memref Cert.KernelIdeal.sig Kind.scVector Space.hbm Cert.KernelIdeal.S16x8192 EltTy.f32)
local notation "hM" => (Memref.whole Cert.KernelIdeal.main_v2_0_scv : Memref Cert.KernelIdeal.sig Kind.scVector Space.hbm Cert.KernelIdeal.S131072 EltTy.f32)
local notation "hW" => (Memref.whole Cert.KernelIdeal.main_v2_1_scv : Memref Cert.KernelIdeal.sig Kind.scVector Space.hbm Cert.KernelIdeal.S131072 EltTy.f32)

variable (m : (ℓ : Loc nD τ sig) → Buf (Elt F) ℓ) (ρ : Dev nD → PrngReg)

/-! ## The contents along the program -/

/-- The biases as the column that the TensorCore's call reads. -/
def bias (d : Dev nD) : S16x1.Idx → F .f32 := shapeCast S16x1 (m ((d.tc : Thread nD τ).loc main_arg2)) shapeCasts_S16_S16x1

/-- The contents at the entry of the TensorCore's call. -/
def atCall (d : Dev nD) (b : Ref sig .tc) : Buf (Elt F) ((d.tc : Thread nD τ).loc b) :=
  Function.update (β := fun b => Buf (Elt F) ((d.tc : Thread nD τ).loc b)) (fun b => m ((d.tc : Thread nD τ).loc b)) main_v0 (bias m d) b

theorem atCall_v0 (d : Dev nD) : atCall m d main_v0 = bias m d := Function.update_self _ _ _
theorem atCall_ne (d : Dev nD) (b : Ref sig .tc) (h : b ≠ main_v0) : atCall m d b = m ((d.tc : Thread nD τ).loc b) := Function.update_of_ne h _ _

/-- The logits of the launch contents. -/
def scores (d : Dev nD) : S16x8192.Idx → F .f32 :=
  logits (m ((d.tc : Thread nD τ).loc main_arg1)) (m ((d.tc : Thread nD τ).loc main_arg0)) (bias m d)

theorem scores_eq (d : Dev nD) : logits (wIn (atCall m) d) (xIn (atCall m) d) (bIn (atCall m) d) = scores m d := by
  unfold wIn xIn bIn scores
  rw [atCall_v0, atCall_ne m d main_arg1 (by decide), atCall_ne m d main_arg0 (by decide)]

/-- What the SparseCore's call is handed and hands back. -/
abbrev PP : (K (F := F)).Pay (nD := nD) (Val := Elt F) (Name := ℕ) (U := UU) := P (scores m) (fun d => m (mLoc d)) (fun d => m (wLoc d))

/-- The two results. -/
def maskRes (d : Dev nD) : S8192x16.Idx → F .f32 := shapeCast S8192x16 (maskOut (scores m d)) shapeCasts_S131072_S8192x16
def weightRes (d : Dev nD) : S8192x16.Idx → F .f32 := shapeCast S8192x16 (weightOut (scores m d)) shapeCasts_S131072_S8192x16

/-! ## The launch's share of the ghost state -/

def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

/-- The pipeline's cells and tokens of one device. -/
abbrev G (d : Dev nD) : sProp 𝕄 :=
  iprop(Pipeline.cellsGhost (Pipeline.pin (pcfgs (F := F)) adm) EP 0 d ∗ Pipeline.toksInit (Pipeline.pin (pcfgs (F := F)) adm) EP 0 d)

omit [FloatOps F] in
theorem own_EP (a : UP) (c : Counters) (h : UH) : (ownU ((h, (a, c)) : UU) : sProp 𝕄) ⊢ iprop(BI.own (EH h) ∗ BI.own (EP a)) := by
  iintro H
  ihave H := (ownU_pair _ _) $$ H
  icases H with ⟨H1, H2⟩
  ihave H2 := (own_pair_emb embR _ _) $$ H2
  icases H2 with ⟨H2, -⟩
  isplitl [H1]; · iexact H1
  iexact H2

theorem hu₀ : (ownU (u₀ (F := F)) : sProp 𝕄)
    ⊢ |={Set.univ}=> iprop(BI.own (EH (initOf (K (F := F)).hsCells (K (F := F)).hsToks)) ∗ (bigSep Finset.univ G)
        ∗ bigSep Finset.univ fun thr : Thread nD τ => bigSep Finset.univ fun q : Fin 1 => (PP m).x q thr) := by
  unfold u₀
  iintro Hu
  ihave H := (own_EP _ _ _) $$ Hu
  icases H with ⟨HH, HP⟩
  imod (Pipeline.fund_ghost (Pipeline.pin (pcfgs (F := F)) adm) EP cellOf_inj) $$ HP with ⟨Hc, Ht⟩
  imodintro
  isplitl [HH]; · iexact HH
  isplitl [Hc Ht]
  · rw [bigSep_sep']
    isplitl [Hc]
    · rw [show (bigSep Finset.univ fun c : Dev nD => Pipeline.cellsGhost (Pipeline.pin (pcfgs (F := F)) adm) EP 0 c)
          = (bigSep Finset.univ fun c : Dev nD => bigSep Finset.univ fun p => (Pipeline.cellsGhost (Pipeline.pin (pcfgs (F := F)) adm) EP p c : sProp 𝕄))
        from bigSep_congr fun c _ => (bigSep_univ_of_subsingleton (Φ := fun p => (Pipeline.cellsGhost (Pipeline.pin (pcfgs (F := F)) adm) EP p c : sProp 𝕄)) (0 : Fin 1)).symm]
      iexact Hc
    · rw [show (bigSep Finset.univ fun c : Dev nD => Pipeline.toksInit (Pipeline.pin (pcfgs (F := F)) adm) EP 0 c)
          = (bigSep Finset.univ fun c : Dev nD => bigSep Finset.univ fun p => (Pipeline.toksInit (Pipeline.pin (pcfgs (F := F)) adm) EP p c : sProp 𝕄))
        from bigSep_congr fun c _ => (bigSep_univ_of_subsingleton (Φ := fun p => (Pipeline.toksInit (Pipeline.pin (pcfgs (F := F)) adm) EP p c : sProp 𝕄)) (0 : Fin 1)).symm]
      iexact Ht
  rw [show (bigSep Finset.univ fun thr : Thread nD τ => bigSep Finset.univ fun q : Fin 1 => (PP m).x q thr) = (iprop(emp) : sProp 𝕄) from
    (bigSep_congr fun _ _ => bigSep_univ_of_subsingleton (0 : Fin 1)).trans (bigSep_emp_const _)]
  iempintro

/-! ## The steps of the TensorCore's program -/

abbrev tcL (d : Dev nD) (b : Ref sig .tc) : Loc nD τ sig := (d.tc : Thread nD τ).loc b

omit [FloatOps F] in
/-- The TensorCore's arrays, one by one. -/
theorem unscopedBufs_eq (d : Dev nD) (W : (b : Ref sig .tc) → Buf (Elt F) ((d.tc : Thread nD τ).loc b)) :
    (unscopedBufs d W : sProp 𝕄) = iprop((tcL d main_arg0 ↦{fullShare} W main_arg0) ∗ (tcL d main_arg1 ↦{fullShare} W main_arg1)
      ∗ (tcL d main_arg2 ↦{fullShare} W main_arg2) ∗ (tcL d main_v0 ↦{fullShare} W main_v0) ∗ (tcL d main_v1 ↦{fullShare} W main_v1)
      ∗ (tcL d main_v2_0 ↦{fullShare} W main_v2_0) ∗ (tcL d main_v2_1 ↦{fullShare} W main_v2_1)
      ∗ (tcL d main_v3 ↦{fullShare} W main_v3) ∗ (tcL d main_v4 ↦{fullShare} W main_v4)) := by
  unfold unscopedBufs
  rw [show (Finset.univ.filter fun b : Ref sig .tc => ¬ b.isScoped)
      = {main_arg0, main_arg1, main_arg2, main_v0, main_v1, main_v2_0, main_v2_1, main_v3, main_v4} by decide]
  repeat rw [SparseCore.bigSep_insert' (by decide)]
  rw [bigSep_singleton]

/-- A reshape of one array into another: the first is kept, the second holds its elements in order. -/
theorem wp_reshape (m : (ℓ : Loc nD τ sig) → Buf (Elt F) ℓ) (d : Dev nD) (x y : Ref sig .tc) (hxy : x ≠ y) (he : x.ty.elt = y.ty.elt) (hn : x.ty.shape.ShapeCasts y.ty.shape) (hx hy)
    (f : Buf (Elt F) (tcL d x)) (g : Buf (Elt F) (tcL d y)) (Q : PUnit → sProp 𝕄) :
    iprop(boundary (SparseCore.T d : Thread nD τ) ∗ (tcL d x ↦{fullShare} f) ∗ (tcL d y ↦{fullShare} g))
      ⊢ iprop(((boundary (SparseCore.T d : Thread nD τ) ∗ (tcL d x ↦{fullShare} f)
            ∗ (tcL d y ↦{fullShare} fun i => he ▸ shapeCast y.ty.shape (show x.ty.Contents (Elt F) from f) hn i)) -∗ Q ⟨⟩)
        -∗ wp frame (wpE ((K (F := F)).defs (D (F := F))) 𝒱 (SparseCore.T d) none) Set.univ
            (hlo rfl (StableHlo.reshape x y he hn hx hy) (fun _ => .ret ⟨⟩)) Q) := by
  let W : Valuation τ sig (Elt F) := Function.update (Function.update (fun b => m (d, b)) (Proc.devRef .tc x) f) (Proc.devRef .tc y) g
  have hne : (Proc.devRef .tc x : DevRef τ sig) ≠ Proc.devRef .tc y := StableHlo.devRef_ne_of_ne hxy
  have hWx : W (Proc.devRef .tc x) = f := (Function.update_of_ne hne _ _).trans (Function.update_self _ _ _)
  have hWy : W (Proc.devRef .tc y) = g := Function.update_self _ _ _
  have hheld : ∀ V : Valuation τ sig (Elt F), (StableHlo.held (SparseCore.T d : Thread nD τ) {Proc.devRef .tc x, Proc.devRef .tc y} V : sProp 𝕄)
      = iprop((tcL d x ↦{fullShare} V (Proc.devRef .tc x)) ∗ (tcL d y ↦{fullShare} V (Proc.devRef .tc y))) := fun V => by
    unfold StableHlo.held
    rw [SparseCore.bigSep_insert' (by rw [Finset.mem_singleton]; exact hne), bigSep_singleton]
  iintro ⟨Hb, Hx, Hy⟩ Hk
  iapply (StableHlo.wp_hlo_within 𝒱 (SparseCore.T d) none Set.univ (op := StableHlo.reshape x y he hn hx hy) (S := {Proc.devRef .tc x, Proc.devRef .tc y})
    (by rw [StableHlo.reshape_bufs]) (V := W)) $$ [Hb Hx Hy]
  · isplitl [Hb]; · iexact Hb
    rw [hheld, hWx, hWy]
    isplitl [Hx]; · iexact Hx
    iexact Hy
  rw [hheld, StableHlo.reshape_result_ne (h := hxy), StableHlo.reshape_result, hWx]
  iintro ⟨Hb, Hx, Hy⟩
  rw [wp_ret]; imodintro
  iapply Hk
  isplitl [Hb]; · iexact Hb
  isplitl [Hx]; · iexact Hx
  iexact Hy

/-! ## The TensorCore's program and the run -/

/-- What the run leaves on one device. -/
abbrev FIN (d : Dev nD) : sProp 𝕄 :=
  iprop((tcL d main_arg0 ↦{fullShare} m (tcL d main_arg0)) ∗ (tcL d main_arg1 ↦{fullShare} m (tcL d main_arg1))
    ∗ (tcL d main_arg2 ↦{fullShare} m (tcL d main_arg2)) ∗ (tcL d main_v3 ↦{fullShare} maskRes m d) ∗ (tcL d main_v4 ↦{fullShare} weightRes m d))

omit [FloatOps F] in
theorem debts_split (d : Dev nD) : ∃ R : sProp 𝕄, ((K (F := F)).tcSt EH d 0 : sProp 𝕄) = iprop(debts d ∗ R) := ⟨_, rfl⟩

/-- The TensorCore's call: the array of the logits filled, the rest kept. -/
theorem wp_call [∀ e, Nonempty (Elt F e)] (κ : GSem nD τ sig → ℕ) (d : Dev nD) (Q : PUnit → sProp 𝕄) :
    iprop((K (F := F)).ctx EH (PP m) κ ∗ boundary (SparseCore.T d : Thread nD τ) ∗ (K (F := F)).tcSt EH d 0 ∗ G d
        ∗ (tcL d main_arg1 ↦{fullShare} m (tcL d main_arg1)) ∗ (tcL d main_arg0 ↦{fullShare} m (tcL d main_arg0))
        ∗ (tcL d main_v0 ↦{fullShare} bias m d) ∗ (tcL d main_v1 ↦{fullShare} m (tcL d main_v1)))
      ⊢ iprop(((boundary (SparseCore.T d : Thread nD τ) ∗ (K (F := F)).tcSt EH d 0
            ∗ (tcL d main_arg1 ↦{fullShare} m (tcL d main_arg1)) ∗ (tcL d main_arg0 ↦{fullShare} m (tcL d main_arg0))
            ∗ (tcL d main_v0 ↦{fullShare} bias m d) ∗ (tcL d main_v1 ↦{fullShare} scores m d)) -∗ Q ⟨⟩)
        -∗ wp frame (wpE ((K (F := F)).defs (D (F := F))) 𝒱 (SparseCore.T d) none) Set.univ
            (Prog.lift (.customCall (SparseCore.inner (Pipeline.entry 0)) ())) Q) := by
  obtain ⟨R, hR⟩ := debts_split (F := F) d
  have h0 : atCall m d main_v0 = bias m d := atCall_v0 m d
  have h1 := atCall_ne m d main_arg1 (by decide)
  have h2 := atCall_ne m d main_arg0 (by decide)
  have h3 := atCall_ne m d main_v1 (by decide)
  have hpre : (reg (atCall m)).pre d = iprop((tcL d main_arg1 ↦{fullShare} m (tcL d main_arg1)) ∗ (tcL d main_arg0 ↦{fullShare} m (tcL d main_arg0))
        ∗ (tcL d main_v0 ↦{fullShare} bias m d) ∗ (tcL d main_v1 ↦{fullShare} m (tcL d main_v1)) ∗ debts d) := by
    rw [← h0, ← h1, ← h2, ← h3]; rfl
  have hpost : (reg (atCall m)).post d = iprop((tcL d main_arg1 ↦{fullShare} m (tcL d main_arg1)) ∗ (tcL d main_arg0 ↦{fullShare} m (tcL d main_arg0))
        ∗ (tcL d main_v0 ↦{fullShare} bias m d) ∗ (tcL d main_v1 ↦{fullShare} scores m d) ∗ debts d) := by
    rw [← h0, ← h1, ← h2, ← scores_eq]; rfl
  rw [hR]
  iintro ⟨#Hctx, Hb, ⟨Ho, HR⟩, ⟨HG1, HG2⟩, H1, H0, Hv, Hl⟩ Hk
  ihave #Hlev := ((K (F := F)).ctx_levAts κ) $$ Hctx
  iapply ((K (F := F)).wp_liftProg (D (F := F)) 𝒱 (SparseCore.T d) Set.univ none (.op (.customCall (Pipeline.entry 0) ()) .ret) Q)
  iapply (Pipeline.RegionSeg.wp (pcfgs (F := F)) adm (pdats (atCall m)) none cellOf_inj EP defs₀ 𝒱₀ (K (F := F)).L (K (F := F)).lev
    (reg (atCall m)) d none (fun _ h => nomatch h) .ret Q)
  isplitl [Hk HR]
  · rw [hpost, wp_ret]
    iintro ⟨Hb, H1, H0, Hv, Hl, Ho⟩
    imodintro
    iapply Hk
    isplitl [Hb]; · iexact Hb
    isplitl [Ho HR]; · isplitl [Ho] <;> iassumption
    isplitl [H1]; · iexact H1
    isplitl [H0]; · iexact H0
    isplitl [Hv] <;> iassumption
  isplitl [Hb]; · iexact Hb
  isplitl [H1 H0 Hv Hl Ho]
  · rw [hpre]
    isplitl [H1]; · iexact H1
    isplitl [H0]; · iexact H0
    isplitl [Hv]; · iexact Hv
    isplitl [Hl] <;> iassumption
  isplitr; · iexact Hlev
  isplitl [HG1] <;> iassumption

theorem hmain [∀ e, Nonempty (Elt F e)] (κ : GSem nD τ sig → ℕ) (d : Dev nD) :
    iprop((K (F := F)).ctx EH (PP m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Ha0, Ha1, Ha2, H0, H1, Hm, Hv, H3, H4⟩, Hts, -⟩, HG⟩
  iapply (wp_reshape m d main_arg2 main_v0 (by decide) rfl shapeCasts_S16_S16x1 _ _ _ _ _) $$ [Hb Ha2 H0]
  · isplitl [Hb]; · iexact Hb
    isplitl [Ha2]; · iexact Ha2
    iexact H0
  iintro ⟨Hb, Ha2, H0⟩
  iapply (wp_call m κ d _) $$ [Hb Hst HG Ha1 Ha0 H0 H1]
  · isplitr; · iexact Hctx
    isplitl [Hb]; · iexact Hb
    isplitl [Hst]; · iexact Hst
    isplitl [HG]; · iexact HG
    isplitl [Ha1]; · iexact Ha1
    isplitl [Ha0]; · iexact Ha0
    isplitl [H0]; · iexact H0
    iexact H1
  iintro ⟨Hb, Hst, Ha1, Ha0, -, H1⟩
  iapply ((K (F := F)).wp_run (D (F := F)) 𝒱 (EH := EH) (P := PP m) κ d 0) $$ [Hst H1 Hm Hv Hb H3 H4 Ha0 Ha1 Ha2 Hts]
  isplitr; · iexact Hctx
  isplitl [Hst]; · iexact Hst
  isplitl [H1 Hm Hv]
  · rw [st_eq]
    isplitl [H1]; · iexact H1
    isplitl [Hm] <;> iassumption
  iintro ⟨Hst, Hdn⟩
  ihave Hdn' := (Entails.of_eq (dn_eq (scores m) (fun d => m (mLoc d)) (fun d => m (wLoc d)) d)) $$ Hdn
  icases Hdn' with ⟨-, Hm, Hv⟩
  iapply (wp_reshape m d main_v2_0 main_v3 (by decide) rfl shapeCasts_S131072_S8192x16 _ _ _ _ _) $$ [Hb Hm H3]
  · isplitl [Hb]; · iexact Hb
    isplitl [Hm]; · iexact Hm
    iexact H3
  iintro ⟨Hb, -, H3⟩
  iapply (wp_reshape m d main_v2_1 main_v4 (by decide) rfl shapeCasts_S131072_S8192x16 _ _ _ _ _) $$ [Hb Hv H4]
  · isplitl [Hb]; · iexact Hb
    isplitl [Hv]; · iexact Hv
    iexact H4
  iintro ⟨Hb, -, H4⟩
  imodintro
  isplitl [Hst]; · iexact Hst
  isplitl [Ha0 Ha1 Ha2 H3 H4]
  · isplitl [Ha0]; · iexact Ha0
    isplitl [Ha1]; · iexact Ha1
    isplitl [Ha2]; · iexact Ha2
    isplitl [H3]; · iexact H3
    iexact H4
  isplitl [Hb] <;> iassumption

/-- What a final memory holds on one device. -/
def fq (d : Dev nD) (s' : Phys nD τ sig (Elt F)) : Prop :=
  s'.mem.mem (tcL d main_arg0) = m (tcL d main_arg0) ∧ s'.mem.mem (tcL d main_arg1) = m (tcL d main_arg1)
    ∧ s'.mem.mem (tcL d main_arg2) = m (tcL d main_arg2) ∧ s'.mem.mem (tcL d main_v3) = maskRes m d ∧ s'.mem.mem (tcL d main_v4) = weightRes m d

omit [FloatOps F] in
/-- An array owned in full is what the memory holds there. -/
theorem agree (ℓ : Loc nD τ sig) (f : Buf (Elt F) ℓ) (s' : Phys nD τ sig (Elt F)) :
    iprop((ℓ ↦{fullShare} f) ∗ SI s') ⊢ (iprop(⌜s'.mem.mem ℓ = f⌝ ∗ SI s') : sProp 𝕄) := by
  have h : iprop((ℓ ↦{fullShare} f) ∗ SI s') ⊢ (⌜s'.mem.mem ℓ = f⌝ : sProp 𝕄) := by
    iintro ⟨Hx, HSI⟩
    ihave H := (SI_pointsTo_agree (st := s') (ℓ := ℓ) (I := Finset.univ) (q := fullShare) (f := f)) $$ [HSI Hx]
    · isplitl [HSI] <;> iassumption
    icases H with %hx
    ipureintro; exact funext fun i => hx i (Finset.mem_univ i)
  refine (persistent_entails_right h).trans ?_
  iintro ⟨Hp, -, H⟩
  isplitl [Hp] <;> iassumption

theorem hfin (d : Dev nD) (s' : Phys nD τ sig (Elt F)) : iprop(FIN m d ∗ SI s') ⊢ (⌜fq m d s'⌝ : sProp 𝕄) := by
  iintro ⟨⟨H0, H1, H2, H3, H4⟩, HSI⟩
  ihave H := (agree _ _ s') $$ [H0 HSI]; · isplitl [H0] <;> iassumption
  icases H with ⟨%h0, HSI⟩
  ihave H := (agree _ _ s') $$ [H1 HSI]; · isplitl [H1] <;> iassumption
  icases H with ⟨%h1, HSI⟩
  ihave H := (agree _ _ s') $$ [H2 HSI]; · isplitl [H2] <;> iassumption
  icases H with ⟨%h2, HSI⟩
  ihave H := (agree _ _ s') $$ [H3 HSI]; · isplitl [H3] <;> iassumption
  icases H with ⟨%h3, HSI⟩
  ihave H := (agree _ _ s') $$ [H4 HSI]; · isplitl [H4] <;> iassumption
  icases H with ⟨%h4, -⟩
  ipureintro
  exact ⟨h0, h1, h2, h3, h4⟩

/-- The run's post: the arguments as they were, the two results' values, and every semaphore at zero. -/
def QC : PUnit × MemSt nD τ sig (Elt F) → Prop := fun r =>
  (∀ d : Dev nD, r.2.mem (tcL d main_arg0) = m (tcL d main_arg0) ∧ r.2.mem (tcL d main_arg1) = m (tcL d main_arg1)
    ∧ r.2.mem (tcL d main_arg2) = m (tcL d main_arg2) ∧ r.2.mem (tcL d main_v3) = maskRes m d ∧ r.2.mem (tcL d main_v4) = weightRes m d)
  ∧ r.2.sem = fun _ => 0

/-- Every run of the kernel ends with the arguments unchanged, the two results at their values and every semaphore at zero. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl (scores m) _ _ facts)
    (fun q _ => match q with | 0 => SparseCore.Cfg.VecSplit.of_plain (vecSplit (scores m) _ _))
    m ρ main G (FIN m) (u₀ (F := F)) (sep_elim_left.trans (hu₀ m)) (hmain m ρ) (fq m) (hfin m) (QC m) (fun _ h hz => ⟨h, hz⟩)

end Cert.Proof.Gate

end
-- ==== Proof.Frames.lean ====
/-
  The frames: every run of the kernel, at the bit-exact floats and at the ideal ones, and every run of the reference
  ends with the arguments unchanged and every semaphore at zero.
-/
module

public import proofs.«01_k».proof.Defs
public import proofs.«01_k».proof.Proof.Gen.Kernel
public import proofs.«01_k».proof.Proof.Gen.ReferenceIdeal.Run
public import proofs.«01_k».proof.Proof.Launch

@[expose] public section

noncomputable section

namespace Cert.Proof

open Idealize.ShloMosaic Idealize.SL.Sem

section

variable {F : FTy → Type} [FloatOps F]

/-- The two printings of the kernel have the same bodies. -/
theorem defs₀_eq : @Cert.Kernel.defs₀ F _ _ = @Cert.KernelIdeal.defs₀ F _ _ := by
  funext p ℓ a
  match p, ℓ, a with
  | .tc, 0, (t, s) => rfl
  | .tc, 1, a => rfl
  | .scVector c s, 0, a => rfl
  | .scVector c s, 1, a => rfl
  | .scScalar c, 0, a => rfl
  | .scScalar c, 1, a => rfl

/-- The two printings of the kernel have the same body table. -/
theorem defs_eq : Cert.Kernel.defs (F := F) = Cert.KernelIdeal.defs (F := F) := by
  unfold Cert.Kernel.defs Cert.KernelIdeal.defs
  exact congrArg (fun d => Cert.KernelIdeal.sc.defs (Pipeline.defs Cert.KernelIdeal.pcfgs d)) defs₀_eq

end

/-- The kernel's run, at the bit-exact floats. -/
theorem frame_kernel : Cert.quiescent_Kernel := fun m ρ _ => by
  rw [defs_eq]
  exact (θ_run (Cert.KernelIdeal.defs (F := Bits)) (Cert.KernelIdeal.threads (F := Bits)) ⟨m, fun _ => 0, ρ⟩).mono
    (fun _ h => ⟨fun c => ⟨(h.1 c).1, (h.1 c).2.1, (h.1 c).2.2.1⟩, h.2⟩) (Gate.run_main (F := Bits) m ρ)

/-- The kernel's run, at the ideal floats. -/
theorem frame_ideal : Cert.quiescent_KernelIdeal := fun m ρ _ =>
  (θ_run Cert.KernelIdeal.defs _ _).mono (fun _ h => ⟨fun c => ⟨(h.1 c).1, (h.1 c).2.1, (h.1 c).2.2.1⟩, h.2⟩) (Gate.run_main (F := Ideal) m ρ)

/-- The reference's run. -/
theorem frame_reference : Cert.quiescent_ReferenceIdeal := fun m ρ _ =>
  (θ_run Cert.ReferenceIdeal.defs _ _).mono
    (fun r h => ⟨fun c => (h c).2.2, Idealize.ShloMosaic.sem_eq_zero_of_no_sems (by decide) r.2⟩) (Cert.ReferenceIdeal.Value.run m ρ)

end Cert.Proof

end
-- ==== Proof.Choice.lean ====
/-
  The gate of one token over the extended reals: the two experts the kernel chooses are the first two of the token's
  logits under the stable descending sort, and the weights are the softmax of the masked logits.
-/
module

public import proofs.«01_k».proof.Proof.Gate
public import Idealize.ShloMosaic.Lib.IdealHost
public import Idealize.ShloMosaic.Lib.SortFacts
public import Idealize.ShloMosaic.Lib.WordCmp

@[expose] public section

noncomputable section

namespace Cert.Proof.Gate

open Idealize.ShloMosaic

/-! ## The stable descending sort -/

section Order

variable {α : Type} [LinearOrder α] {n : ℕ} (v : Fin n → α)

/-- Position `a` comes before position `b`: its value is greater, or equal and the position is lower. -/
def Ahead (a b : Fin n) : Prop := v b < v a ∨ (v b = v a ∧ a < b)

theorem Ahead.trans {a b c : Fin n} (h : Ahead v a b) (h' : Ahead v b c) : Ahead v a c := by
  rcases h with h | ⟨h, l⟩ <;> rcases h' with h' | ⟨h', l'⟩
  · exact .inl (h'.trans h)
  · exact .inl (h' ▸ h)
  · exact .inl (h ▸ h')
  · exact .inr ⟨h'.trans h, l.trans l'⟩

variable (B : Fin n → Fin n → Bool) (hB : ∀ a b, B a b = true ↔ v b < v a)
include hB

theorem insert_ahead (a : Fin n) (l : List (Fin n)) (hl : l.Pairwise (Ahead v)) (ha : ∀ b ∈ l, a < b) :
    (insertBefore B a l).Pairwise (Ahead v) ∧ ∀ c, c ∈ insertBefore B a l ↔ c = a ∨ c ∈ l := by
  induction l with
  | nil => exact ⟨List.pairwise_singleton _ _, fun c => by simp [insertBefore]⟩
  | cons b l ih =>
    obtain ⟨hb, hl'⟩ := List.pairwise_cons.mp hl
    obtain ⟨ih1, ih2⟩ := ih hl' fun c hc => ha c (List.mem_cons_of_mem _ hc)
    unfold insertBefore
    split
    · rename_i hba
      refine ⟨List.pairwise_cons.mpr ⟨fun c hc => ?_, ih1⟩, fun c => ?_⟩
      · rcases (ih2 c).mp hc with rfl | hc
        · exact .inl ((hB _ _).mp hba)
        · exact hb c hc
      · rw [List.mem_cons, ih2, List.mem_cons]; tauto
    · rename_i hba
      have hab : Ahead v a b := by
        rcases lt_or_eq_of_le (not_lt.mp (mt (hB b a).mpr hba)) with h | h
        · exact .inl h
        · exact .inr ⟨h, ha b List.mem_cons_self⟩
      refine ⟨List.pairwise_cons.mpr ⟨fun c hc => ?_, hl⟩, fun c => List.mem_cons⟩
      rcases List.mem_cons.mp hc with rfl | hc
      · exact hab
      · exact hab.trans v (hb c hc)

theorem sort_ahead (l : List (Fin n)) (hl : l.Pairwise (· < ·)) :
    (stableSort B l).Pairwise (Ahead v) ∧ ∀ c, c ∈ stableSort B l ↔ c ∈ l := by
  induction l with
  | nil => exact ⟨List.Pairwise.nil, fun c => Iff.rfl⟩
  | cons a l ih =>
    obtain ⟨ha, hl'⟩ := List.pairwise_cons.mp hl
    obtain ⟨ih1, ih2⟩ := ih hl'
    obtain ⟨h1, h2⟩ := insert_ahead v B hB a _ ih1 fun b hb => ha b ((ih2 b).mp hb)
    exact ⟨h1, fun c => by unfold stableSort; rw [h2, ih2, List.mem_cons]⟩

/-- An earlier place of the sort holds a position ahead of a later place's. -/
theorem sortedFrom_ahead (i j : Fin n) (hij : i < j) : Ahead v (sortedFrom B i) (sortedFrom B j) := by
  have h := List.pairwise_iff_get.mp (sort_ahead v B hB (List.finRange n) (List.pairwise_lt_finRange n)).1
  unfold sortedFrom
  exact h _ _ hij

/-- The first place holds a position ahead of every other one. -/
theorem first_ahead (i : Fin n) (hi : i.val = 0) (e : Fin n) (he : e ≠ sortedFrom B i) : Ahead v (sortedFrom B i) e := by
  obtain ⟨j, rfl⟩ := sortedFrom_surjective B e
  refine sortedFrom_ahead v B hB i j ?_
  rw [Fin.lt_def, hi]
  exact Nat.pos_of_ne_zero fun h => he (congrArg _ (Fin.ext (h.trans hi.symm)))

/-- The second place holds a position ahead of every one but the first place's. -/
theorem second_ahead (i j : Fin n) (hi : i.val = 0) (hj : j.val = 1) (e : Fin n) (he : e ≠ sortedFrom B i) (he' : e ≠ sortedFrom B j) :
    Ahead v (sortedFrom B j) e := by
  obtain ⟨k, rfl⟩ := sortedFrom_surjective B e
  refine sortedFrom_ahead v B hB j k ?_
  rw [Fin.lt_def, hj]
  have h0 : k.val ≠ 0 := fun h => he (congrArg _ (Fin.ext (h.trans hi.symm)))
  have h1 : k.val ≠ 1 := fun h => he' (congrArg _ (Fin.ext (h.trans hj.symm)))
  omega

end Order

/-! ## The kernel's gate -/

section Pick

variable (v : Fin 16 → EReal)

theorem top_le_iff (a : EReal) : top (F := Ideal) v ≤ a ↔ ∀ e, v e ≤ a := by
  unfold top
  simp only [Ideal.maximumf_def, max_le_iff]
  constructor
  · rintro ⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩ e
    fin_cases e
    exacts [h0, h1, h2, h3, h4, h5, h6, h7, h8, h9, h10, h11, h12, h13, h14, h15]
  · intro h
    simp only [h, and_self]

/-- The greatest value, at a position whose value none exceeds. -/
theorem top_eq (p : Fin 16) (h : ∀ e, v e ≤ v p) : top (F := Ideal) v = v p :=
  le_antisymm ((top_le_iff v _).mpr h) ((top_le_iff v _).mp le_rfl p)

theorem minsi_word : ∀ a b : Fin 17, IntOp.minsi (BitVec.ofNat 32 a.val) (BitVec.ofNat 32 b.val) = BitVec.ofNat 32 (min a b).val := by decide

/-- The least of sixteen words none above sixteen, at a position whose word is the least. -/
theorem least_eq (w : Fin 16 → Fin 17) (p : Fin 16) (h : ∀ e, w p ≤ w e) : least (fun e => BitVec.ofNat 32 (w e).val) = BitVec.ofNat 32 (w p).val := by
  have all : ∀ x : Fin 17, x ≤ min (min (min (min (min (min (min (min (min (min (min (min (min (min (min (w 0) (w 1)) (w 2)) (w 3)) (w 4)) (w 5)) (w 6)) (w 7)) (w 8)) (w 9)) (w 10)) (w 11)) (w 12)) (w 13)) (w 14)) (w 15) ↔ ∀ e, x ≤ w e := by
    intro x
    simp only [le_min_iff]
    constructor
    · rintro ⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩ e
      fin_cases e
      exacts [h0, h1, h2, h3, h4, h5, h6, h7, h8, h9, h10, h11, h12, h13, h14, h15]
    · intro h
      simp only [h, and_self]
  unfold least
  simp only [minsi_word]
  exact congrArg (fun k : Fin 17 => BitVec.ofNat 32 k.val) (le_antisymm ((all _).mp le_rfl p) ((all _).mpr h))

/-- The first position of greatest value, as the kernel finds it. -/
theorem least_pos (p : Fin 16) (h : ∀ e, e ≠ p → Ahead v p e) : least (pos (F := Ideal) v (top (F := Ideal) v)) = BitVec.ofNat 32 p.val := by
  have hle : ∀ e, v e ≤ v p := fun e => by
    by_cases he : e = p
    · rw [he]
    · rcases h e he with h | ⟨h, -⟩
      · exact h.le
      · exact h.le
  rw [top_eq v p hle]
  have hpos : pos (F := Ideal) v (v p) = fun e => BitVec.ofNat 32 (if v e = v p then e.castSucc else (16 : Fin 17)).val := by
    funext e
    unfold pos
    by_cases he : v e = v p
    · rw [if_pos he, Ideal.cmpf_def]; simp [Ideal.cmp, he, Scalar.select]
    · rw [if_neg he, Ideal.cmpf_def]; simp [Ideal.cmp, he, Scalar.select]
  rw [hpos, least_eq (fun e => if v e = v p then e.castSucc else (16 : Fin 17)) p]
  · rw [if_pos rfl]; rfl
  · intro e
    rw [if_pos rfl]
    split
    · rename_i he
      by_cases hep : e = p
      · rw [hep]
      · rcases h e hep with h | ⟨-, h⟩
        · exact absurd he h.ne
        · exact Fin.castSucc_le_castSucc_iff.mpr h.le
    · exact Fin.le_last _

theorem eq_word : ∀ a b : Fin 16, IntOp.cmpi .eq (BitVec.ofNat 32 a.val) (BitVec.ofNat 32 b.val) = if b = a then 1#1 else 0#1 := by decide

/-- The first choice is the position ahead of every other. -/
theorem first_eq (p : Fin 16) (h : ∀ e, e ≠ p → Ahead v p e) : first (F := Ideal) v = BitVec.ofNat 32 p.val := least_pos v p h

theorem ninf_eq : (ninf : Ideal .f32) = (⊥ : EReal) := by
  show Ideal.ofBits .f32 0xFF800000#32 = ⊥
  simp [Ideal.ofBits, Ideal.ieee]

theorem one_eq : (one : Ideal .f32) = (1 : EReal) := Ideal.ofBits_one_f32

theorem zero_eq : (zero : Ideal .f32) = (0 : EReal) := Ideal.ofBits_zero_f32

/-- The values left after the first choice: minus infinity there, the same elsewhere. -/
theorem rest_eq (p : Fin 16) (h : ∀ e, e ≠ p → Ahead v p e) (e : Fin 16) : rest (F := Ideal) v e = if e = p then (⊥ : EReal) else v e := by
  unfold rest
  rw [first_eq v p h, ninf_eq, eq_word]
  by_cases he : e = p
  · rw [if_pos he, if_pos he]; rfl
  · rw [if_neg he, if_neg he]; rfl

/-- The second choice is the position ahead of every one but the first, of values none of which is minus infinity. -/
theorem second_eq (hv : ∀ e, v e ≠ ⊥) (p q : Fin 16) (hpq : q ≠ p) (h : ∀ e, e ≠ p → Ahead v p e) (h' : ∀ e, e ≠ p → e ≠ q → Ahead v q e) :
    second (F := Ideal) v = BitVec.ofNat 32 q.val := by
  refine least_pos (rest (F := Ideal) v) q fun e he => ?_
  unfold Ahead
  rw [rest_eq v p h, rest_eq v p h, if_neg hpq]
  by_cases hep : e = p
  · rw [if_pos hep]; exact .inl (bot_lt_iff_ne_bot.mpr (hv q))
  · rw [if_neg hep]; exact h' e hep he

/-- The gate is one at the two chosen positions and zero elsewhere. -/
theorem gate_eq (hv : ∀ e, v e ≠ ⊥) (p q : Fin 16) (hpq : q ≠ p) (h : ∀ e, e ≠ p → Ahead v p e) (h' : ∀ e, e ≠ p → e ≠ q → Ahead v q e) (e : Fin 16) :
    gate (F := Ideal) v e = if e = p ∨ e = q then (1 : EReal) else 0 := by
  unfold gate
  rw [first_eq v p h, second_eq v hv p q hpq h h']
  rw [one_eq, zero_eq, eq_word, eq_word]
  by_cases hp : e = p
  · rw [if_pos hp, if_pos (Or.inl hp : e = p ∨ e = q)]
    split <;> rfl
  · rw [if_neg hp]
    by_cases hq : e = q
    · rw [if_pos hq, if_pos (Or.inr hq : e = p ∨ e = q)]; rfl
    · rw [if_neg hq, if_neg (not_or.mpr ⟨hp, hq⟩)]; rfl

/-! ## The softmax -/

/-- A product of the gate and a finite logit is finite. -/
theorem sparse_real (w : Fin 16 → ℝ) (hw : ∀ e, v e = (w e : EReal)) (g : Fin 16 → Prop) [DecidablePred g]
    (hg : ∀ e, gate (F := Ideal) v e = if g e then (1 : EReal) else 0) (e : Fin 16) :
    sparse (F := Ideal) v e = ((if g e then w e else 0 : ℝ) : EReal) := by
  unfold sparse
  rw [hg e, Ideal.mulf_def]
  split
  · rw [one_mul, hw]
  · rw [zero_mul, EReal.coe_zero]

theorem expo_eq (w : Fin 16 → ℝ) (hs : ∀ e, sparse (F := Ideal) v e = (w e : EReal)) (p : Fin 16) (hp : ∀ e, w e ≤ w p) (e : Fin 16) :
    expo (F := Ideal) v e = (Real.exp (w e - w p) : EReal) := by
  unfold expo
  rw [top_eq (sparse (F := Ideal) v) p fun e => by rw [hs, hs]; exact EReal.coe_le_coe_iff.mpr (hp e)]
  rw [hs, hs, Ideal.subf_def, ← EReal.coe_sub]
  exact Ideal.exp_coe _

theorem total_eq : total (F := Ideal) v = ∑ e, v e := by
  unfold total
  simp only [Ideal.addf_def, Fin.sum_univ_castSucc, Fin.sum_univ_zero, zero_add]
  rfl

/-- Multiplying by the reciprocal of the sum is dividing by the sum, of masked logits that are finite. -/
theorem weight_eq (w : Fin 16 → ℝ) (hs : ∀ e, sparse (F := Ideal) v e = (w e : EReal)) (e : Fin 16) :
    weight (F := Ideal) v e = Ideal.div (expo (F := Ideal) v e) (total (F := Ideal) (expo (F := Ideal) v)) := by
  obtain ⟨p, hp⟩ := Finite.exists_max w
  unfold weight inv
  rw [Ideal.mulf_def, Ideal.divf_def, one_eq]
  refine Ideal.mul_one_div ?_
  rw [total_eq, Finset.sum_congr rfl fun e _ => expo_eq v w hs p hp e]
  have nn : ∀ e ∈ Finset.univ, (0 : EReal) ≤ (Real.exp (w e - w p) : EReal) := fun e _ => EReal.coe_nonneg.mpr (Real.exp_pos _).le
  exact ((EReal.coe_pos.mpr (Real.exp_pos _)).trans_le (Finset.single_le_sum nn (Finset.mem_univ p))).ne'

end Pick

end Cert.Proof.Gate

end
-- ==== Proof.RefMask.lean ====
/-
  The reference's mask, read at a token and an expert: one at the two experts ahead of the others, zero elsewhere.
-/
module

public import proofs.«01_k».proof.Proof.Choice
public import proofs.«01_k».proof.Proof.Gen.ReferenceIdeal.Run
public import Idealize.ShloMosaic.Lib.Pointwise
public import Idealize.ShloMosaic.Lib.ScatterToDense.RefScatter

@[expose] public section

noncomputable section

namespace Cert.Proof.Ref

open Cert.ReferenceIdeal Cert.ReferenceIdeal.Gen
open Idealize.ShloMosaic
open Cert.Proof.Gate (Ahead first_ahead second_ahead)

/-- The experts of every token's two greatest logits. -/
abbrev picks (x : FVec Ideal S8192x16 .f32) : IVec S8192x2 32 := (Host.topK S8192x2 1 (FloatOps.cmpfTotal .gt) x sliceFits_S8192x16_S8192x2).2

/-- The picks, a negative one moved up by sixteen. -/
abbrev wrapped (x : FVec Ideal S8192x16 .f32) : IVec S8192x2 32 :=
  select (cmpi .slt (picks x) (broadcastInDim S8192x2 ![] bcast_S_S8192x2 (constantI S_ 32 0#32))) (addi (picks x) (broadcastInDim S8192x2 ![] bcast_S_S8192x2 (constantI S_ 32 16#32))) (picks x)

/-- The tokens' numbers, as the scatter takes them. -/
abbrev tokens : IVec S8192x2 32 :=
  broadcastInDim S8192x2 ![0, 1] bcast_S8192x1_S8192x2_0_1 (select (cmpi .slt (broadcastInDim S8192x1 ![0] bcast_S8192_S8192x1_0 (iotaInDim S8192 32 0)) (broadcastInDim S8192x1 ![] bcast_S_S8192x1 (constantI S_ 32 0#32))) (addi (broadcastInDim S8192x1 ![0] bcast_S8192_S8192x1_0 (iotaInDim S8192 32 0)) (broadcastInDim S8192x1 ![] bcast_S_S8192x1 (constantI S_ 32 8192#32))) (broadcastInDim S8192x1 ![0] bcast_S8192_S8192x1_0 (iotaInDim S8192 32 0)))

/-- The places the scatter writes: token and expert. -/
abbrev places (x : FVec Ideal S8192x16 .f32) : IVec S8192x2x2 32 :=
  concatenate S8192x2x2 2 [⟨S8192x2x1, broadcastInDim S8192x2x1 ![0, 1] bcast_S8192x2_S8192x2x1_0_1 tokens⟩, ⟨S8192x2x1, broadcastInDim S8192x2x1 ![0, 1] bcast_S8192x2_S8192x2x1_0_1 (wrapped x)⟩] concatenates_S8192x2x1_S8192x2x1_S8192x2x2_d2

/-- The reference's mask of given logits. -/
abbrev mask (x : FVec Ideal S8192x16 .f32) : FVec Ideal S8192x16 .f32 :=
  Host.scatter scatter_S8192x16_S8192x2x2_S8192x2_n_01_01_2 (fun _ b => b) (broadcastInDim S8192x16 ![] bcast_S_S8192x16 (constant S_ .f32 0x00000000#32)) (places x) (broadcastInDim S8192x2 ![] bcast_S_S8192x2 (constant S_ .f32 0x3F800000#32))

/-- A token's logits. -/
def row (x : FVec Ideal S8192x16 .f32) (n : Fin 8192) : Fin 16 → EReal := fun e => x (ValueIdx.ix2 n e)

/-- The sort's order on a token's experts: by greater logit. -/
def before (x : FVec Ideal S8192x16 .f32) (n : Fin 8192) (a b : Fin 16) : Bool := decide (row x n b < row x n a)

/-- The expert of a token's greatest logit. -/
def fst (x : FVec Ideal S8192x16 .f32) (n : Fin 8192) : Fin 16 := sortedFrom (before x n) 0

/-- The expert of a token's second logit. -/
def snd (x : FVec Ideal S8192x16 .f32) (n : Fin 8192) : Fin 16 := sortedFrom (before x n) 1

theorem picks_apply (x : FVec Ideal S8192x16 .f32) (n : Fin 8192) (k : Fin 2) :
    picks x (ValueIdx.ix2 n k) = BitVec.ofNat 32 (sortedFrom (before x n) (Fin.castLE (by decide) k)).val := by
  have along : ∀ (j : S8192x16.Idx) (c : Fin 16), j 0 = n → j.along (1 : Fin 2) c = ValueIdx.ix2 n c := by
    intro j c hj
    funext d
    match d with
    | ⟨0, _⟩ => exact hj
    | ⟨1, _⟩ => rfl
  have key : (fun a b : Fin 16 => FloatOps.cmpfTotal (F := Ideal) (φ := .f32) .gt (x (ValueIdx.ix2 n a)) (x (ValueIdx.ix2 n b)) == 1#1) = before x n := by
    funext a b
    unfold before row
    by_cases h : x (ValueIdx.ix2 n b) < x (ValueIdx.ix2 n a) <;> simp [h, Ideal.cmpfTotal_def, Ideal.cmp, CmpDirection.ordered]
  dsimp only [picks, Host.topK, Host.sort2, extractStridedSlice]
  rw [dif_pos (by decide : 1 < S8192x16.rank)]
  have fin : ∀ (B B' : Fin 16 → Fin 16 → Bool) (c c' : Fin 16), B = B' → c = c' →
      iotaInDim S8192x16 32 1 (ValueIdx.ix2 n (sortedFrom B c)) = BitVec.ofNat 32 (sortedFrom B' c').val := by
    rintro B _ c _ rfl rfl
    rfl
  have main : ∀ j : S8192x16.Idx, j 0 = n → j 1 = Fin.castLE (by decide) k → iotaInDim S8192x16 32 1 (j.along (1 : Fin 2)
      (sortedFrom (fun a b : Fin 16 => FloatOps.cmpfTotal (F := Ideal) (φ := .f32) .gt (x (j.along (1 : Fin 2) a)) (x (j.along (1 : Fin 2) b)) == 1#1) (j 1)))
      = BitVec.ofNat 32 (sortedFrom (before x n) (Fin.castLE (by decide) k)).val := by
    intro j h0 h1
    have e : (fun a b : Fin 16 => FloatOps.cmpfTotal (F := Ideal) (φ := .f32) .gt (x (j.along (1 : Fin 2) a)) (x (j.along (1 : Fin 2) b)) == 1#1) = before x n := by
      rw [← key]
      funext a b
      exact congrArg₂ (fun u w => FloatOps.cmpfTotal (F := Ideal) (φ := .f32) .gt (x u) (x w) == 1#1) (along j a h0) (along j b h0)
    refine (congrArg (iotaInDim S8192x16 32 1) (along j _ h0)).trans ?_
    exact fin _ _ _ _ e h1
  dsimp only
  rw [dif_pos (by decide : 1 < 2)]
  refine main _ ?_ ?_
  · exact Fin.ext (Nat.zero_add _)
  · exact Fin.ext (Nat.zero_add _)

theorem wrapped_apply (x : FVec Ideal S8192x16 .f32) (n : Fin 8192) (k : Fin 2) :
    wrapped x (ValueIdx.ix2 n k) = BitVec.ofNat 32 (sortedFrom (before x n) (Fin.castLE (by decide) k)).val := by
  rw [← picks_apply x n k]
  refine Routing.wrap_of_lt (picks x (ValueIdx.ix2 n k)) _ ?_
  rw [picks_apply, BitVec.toNat_ofNat]
  omega

theorem tokens_apply (n : Fin 8192) (k : Fin 2) : tokens (ValueIdx.ix2 n k) = BitVec.ofNat 32 n.val := by
  rw [← ix2_eq_valueIdx]
  pointwise [tokens]
  refine Routing.wrap_of_lt _ _ ?_
  rw [BitVec.toNat_ofNat]
  omega

/-- The two columns of a table of pairs. -/
theorem pairs_apply (t w : IVec S8192x2 32) (n : Fin 8192) (k : Fin 2) (l : Fin 2) :
    concatenate S8192x2x2 2 [⟨S8192x2x1, broadcastInDim S8192x2x1 ![0, 1] bcast_S8192x2_S8192x2x1_0_1 t⟩, ⟨S8192x2x1, broadcastInDim S8192x2x1 ![0, 1] bcast_S8192x2_S8192x2x1_0_1 w⟩] concatenates_S8192x2x1_S8192x2x1_S8192x2x2_d2 (ix3 n k l)
      = if l.val < 1 then t (ix2 n k) else w (ix2 n k) := by
  pointwise
  split <;> rfl

theorem places_token (x : FVec Ideal S8192x16 .f32) (n : Fin 8192) (k : Fin 2) : places x (ValueIdx.ix3 n k (0 : Fin 2)) = BitVec.ofNat 32 n.val := by
  rw [← tokens_apply n k, ← ix3_eq_valueIdx, ← ix2_eq_valueIdx]
  exact (pairs_apply tokens (wrapped x) n k 0).trans (if_pos (by decide))

theorem places_expert (x : FVec Ideal S8192x16 .f32) (n : Fin 8192) (k : Fin 2) :
    places x (ValueIdx.ix3 n k (1 : Fin 2)) = BitVec.ofNat 32 (sortedFrom (before x n) (Fin.castLE (by decide) k)).val := by
  rw [← wrapped_apply x n k, ← ix3_eq_valueIdx, ← ix2_eq_valueIdx]
  exact (pairs_apply tokens (wrapped x) n k 1).trans (if_neg (by decide))

/-- The word of a token's candidate: the expert at that place of the sort. -/
def word (x : FVec Ideal S8192x16 .f32) (n : Fin 8192) (k : ℕ) : BitVec 32 := if k = 0 then BitVec.ofNat 32 (fst x n).val else BitVec.ofNat 32 (snd x n).val

/-- The reference's mask is one at the two experts of greatest logit and zero elsewhere. -/
theorem mask_apply (x : FVec Ideal S8192x16 .f32) (n : Fin 8192) (e : Fin 16) :
    mask x (ValueIdx.ix2 n e) = if e = fst x n ∨ e = snd x n then (1 : EReal) else 0 := by
  have h := ScatterToDense.scatter_eq_GS scatter_S8192x16_S8192x2x2_S8192x2_n_01_01_2 rfl rfl rfl (by norm_num) (by norm_num)
    (broadcastInDim S8192x16 ![] bcast_S_S8192x16 (constant (F := Ideal) S_ .f32 0x00000000#32)) (places x)
    (broadcastInDim S8192x2 ![] bcast_S_S8192x2 (constant (F := Ideal) S_ .f32 0x3F800000#32)) (word x) (fun _ _ => (1 : EReal))
    (places_token x) (fun i k => by
      rw [places_expert]
      match k with
      | 0 => rfl
      | 1 => rfl) (fun i k => Ideal.ofBits_one_f32) n e
  refine h.trans ?_
  have toNat : ∀ q : Fin 16, e.val = (BitVec.ofNat 32 q.val).toNat ↔ e = q := by
    intro q
    rw [BitVec.toNat_ofNat, Nat.mod_eq_of_lt (by omega), Fin.ext_iff]
  rw [ScatterToDense.GS_succ, ScatterToDense.GS_succ, ScatterToDense.GS_zero]
  have w0 : word x n 0 = BitVec.ofNat 32 (fst x n).val := rfl
  have w1 : word x n 1 = BitVec.ofNat 32 (snd x n).val := rfl
  simp only [w0, w1, toNat]
  by_cases a : e = snd x n
  · rw [if_pos a, if_pos (Or.inr a : e = fst x n ∨ e = snd x n)]
  · rw [if_neg a]
    by_cases b : e = fst x n
    · rw [if_pos b, if_pos (Or.inl b : e = fst x n ∨ e = snd x n)]
    · rw [if_neg b, if_neg (not_or.mpr ⟨b, a⟩)]
      exact Ideal.ofBits_zero_f32

/-- On finite logits the kernel's gate of a token is the reference's mask. -/
theorem gate_eq_mask (x : FVec Ideal S8192x16 .f32) (n : Fin 8192) (hx : ∀ e, row x n e ≠ ⊥) (e : Fin 16) :
    Gate.gate (F := Ideal) (row x n) e = mask x (ValueIdx.ix2 n e) := by
  have hB : ∀ a b, before x n a b = true ↔ row x n b < row x n a := fun a b => decide_eq_true_iff
  have ne : snd x n ≠ fst x n := fun h => absurd (sortedFrom_injective (before x n) h) (by decide)
  rw [mask_apply]
  exact Gate.gate_eq (row x n) hx (fst x n) (snd x n) ne (first_ahead (row x n) (before x n) hB 0 rfl)
    (second_ahead (row x n) (before x n) hB 0 1 rfl rfl) e

end Cert.Proof.Ref

end
-- ==== Proof.RefWeight.lean ====
/-
  The reference's weights, read at a token and an expert: the softmax of the token's masked logits, as the kernel computes it.
-/
module

public import proofs.«01_k».proof.Proof.RefMask

@[expose] public section

noncomputable section

namespace Cert.Proof.Ref

open Cert.ReferenceIdeal Cert.ReferenceIdeal.Gen
open Idealize.ShloMosaic

/-- Every token's greatest masked logit, over the token's experts. -/
abbrev peak (s : FVec Ideal S8192x16 .f32) : FVec Ideal S8192x16 .f32 :=
  broadcastInDim S8192x16 ![0, 1] bcast_S8192x1_S8192x16_0_1 (broadcastInDim S8192x1 ![0] bcast_S8192_S8192x1_0 (maximumf (broadcastInDim S8192 ![] bcast_S_S8192 (constant S_ .f32 0xFF800000#32)) (Host.reduce FloatOps.maximumf s (constant S_ .f32 0xFF800000#32) reducesTo_S8192x16_S8192_d1 h_S_)))

/-- The reference's softmax of given masked logits. -/
abbrev soft (s : FVec Ideal S8192x16 .f32) : FVec Ideal S8192x16 .f32 :=
  Host.divf (Host.exp (subf s (peak s))) (broadcastInDim S8192x16 ![0, 1] bcast_S8192x1_S8192x16_0_1 (broadcastInDim S8192x1 ![0] bcast_S8192_S8192x1_0 (Host.reduceAdd (Host.exp (subf s (peak s))) (constant S_ .f32 0x00000000#32) reducesTo_S8192x16_S8192_d1 h_S_)))

theorem peak_apply (s : FVec Ideal S8192x16 .f32) (n : Fin 8192) (e : Fin 16) : peak s (ValueIdx.ix2 n e) = Gate.top (F := Ideal) (row s n) := by
  have hrow : row s n = fun e => s (ix2 n e) := by funext e; unfold row; rw [ix2_eq_valueIdx]
  rw [hrow, ← ix2_eq_valueIdx]
  pointwise [peak]
  have hb : Ideal.ofBits .f32 0xFF800000#32 = (⊥ : EReal) := Gate.ninf_eq
  rw [hb, bot_sup_eq]
  refine eq_of_forall_ge_iff fun c => ?_
  rw [Finset.fold_max_le, Gate.top_le_iff]
  simp

theorem soft_apply (s : FVec Ideal S8192x16 .f32) (n : Fin 8192) (e : Fin 16) : soft s (ValueIdx.ix2 n e)
    = Ideal.div (Ideal.exp (row s n e - Gate.top (F := Ideal) (row s n))) (∑ k, Ideal.exp (row s n k - Gate.top (F := Ideal) (row s n))) := by
  have hs : ∀ e, row s n e = s (ix2 n e) := fun e => by unfold row; rw [ix2_eq_valueIdx]
  have hp : ∀ e, peak s (ix2 n e) = Gate.top (F := Ideal) (row s n) := fun e => by rw [ix2_eq_valueIdx, peak_apply]
  rw [← ix2_eq_valueIdx]
  unfold soft
  generalize peak s = p at hp ⊢
  pointwise
  simp only [hs, hp]

/-- On finite logits the kernel's weights of a token are the reference's. -/
theorem weight_eq_soft (x : FVec Ideal S8192x16 .f32) (n : Fin 8192) (w : Fin 16 → ℝ) (hw : ∀ e, row x n e = (w e : EReal)) (e : Fin 16) :
    Gate.weight (F := Ideal) (row x n) e = soft (mulf (mask x) x) (ValueIdx.ix2 n e) := by
  have hx : ∀ e, row x n e ≠ ⊥ := fun e => by rw [hw]; exact EReal.coe_ne_bot _
  have hm : row (mulf (mask x) x) n = Gate.sparse (F := Ideal) (row x n) := by
    funext k
    unfold Gate.sparse
    rw [gate_eq_mask x n hx k]
    rfl
  have hs := Gate.sparse_real (row x n) w hw (fun k => k = fst x n ∨ k = snd x n) fun k => (gate_eq_mask x n hx k).trans (mask_apply x n k)
  rw [soft_apply, hm, Gate.weight_eq (row x n) _ hs e, Gate.total_eq]
  rfl

end Cert.Proof.Ref

end
-- ==== Proof.Logits.lean ====
/-
  The logits: the kernel's, at an expert and a token, are the reference's, at the token and the expert; finite arguments give
  finite logits.
-/
module

public import proofs.«01_k».proof.Proof.RefWeight
public import proofs.«01_k».proof.Proof.Launch

@[expose] public section

noncomputable section

namespace Cert.Proof.Ref

open Cert.ReferenceIdeal Cert.ReferenceIdeal.Gen
open Idealize.ShloMosaic

/-- The reference's logits of the tokens, the experts' weights and the biases. -/
abbrev plain (x : FVec Ideal S8192x2048 .f32) (w : FVec Ideal S16x2048 .f32) (b : FVec Ideal S16 .f32) : FVec Ideal S8192x16 .f32 :=
  addf (Host.dotGeneral dot_S8192x2048_S2048x16_S8192x16_1_0_0_1_n_n none x (transpose S2048x16 [1, 0] w transposes_S16x2048_S2048x16_1_0)) (broadcastInDim S8192x16 ![0, 1] bcast_S1x16_S8192x16_0_1 (broadcastInDim S1x16 ![1] bcast_S16_S1x16_1 b))

theorem plain_apply (x : FVec Ideal S8192x2048 .f32) (w : FVec Ideal S16x2048 .f32) (b : FVec Ideal S16 .f32) (n : Fin 8192) (e : Fin 16) :
    plain x w b (ix2 n e) = ∑ k : Fin 2048, x (ix2 n k) * w (ix2 e k) + b (ix1 e) := by
  pointwise

theorem block_apply (x : FVec Ideal S8192x2048 .f32) (w : FVec Ideal S16x2048 .f32) (b : FVec Ideal S16 .f32) (n : Fin 16) (e : Fin 16) (t : Fin 512) :
    KernelIdeal.Gen.k0_pay1 (F := Ideal) w (Gate.rows x n) (shapeCast KernelIdeal.S16x1 b KernelIdeal.Gen.shapeCasts_S16_S16x1) (ix2 e t)
      = ∑ k : Fin 2048, w (ix2 e k) * Gate.rows (F := Ideal) x n (ix2 t k) + b (ix1 e) := by
  pointwise [KernelIdeal.Gen.k0_pay1]

/-- The kernel's logits of a token are the reference's. -/
theorem logits_eq (x : FVec Ideal S8192x2048 .f32) (w : FVec Ideal S16x2048 .f32) (b : FVec Ideal S16 .f32) (n : Fin 8192) :
    Gate.lcol (Gate.logits (F := Ideal) w x (shapeCast KernelIdeal.S16x1 b KernelIdeal.Gen.shapeCasts_S16_S16x1)) n = row (plain x w b) n := by
  funext e
  unfold Gate.lcol row Gate.logits
  have hy : (fun a : Fin 2 => match a with
      | 0 => (⟨e.val, e.isLt⟩ : Fin 16)
      | 1 => (⟨n.val % 512, Nat.mod_lt _ (by decide)⟩ : Fin 512) : KernelIdeal.S16x512.Idx) = ix2 e (⟨n.val % 512, Nat.mod_lt _ (by decide)⟩ : Fin 512) := by
    funext a
    match a with
    | 0 => rfl
    | 1 => rfl
  have hq : n.val / 512 < 16 := by omega
  have hr : ∀ k : Fin 2048, Gate.rows (F := Ideal) x ⟨n.val / 512, hq⟩ (ix2 (⟨n.val % 512, Nat.mod_lt _ (by decide)⟩ : Fin 512) k) = x (ix2 n k) := by
    intro k
    unfold Gate.rows
    refine congrArg x (funext fun a => ?_)
    match a with
    | 0 => exact Fin.ext (Nat.div_add_mod n.val 512)
    | 1 => rfl
  rw [← ix2_eq_valueIdx, plain_apply]
  refine (congrArg (KernelIdeal.Gen.k0_pay1 (F := Ideal) w (Gate.rows x ⟨n.val / 512, hq⟩) (shapeCast KernelIdeal.S16x1 b KernelIdeal.Gen.shapeCasts_S16_S16x1)) hy).trans ?_
  rw [block_apply]
  refine congrArg (· + b (ix1 e)) (Finset.sum_congr rfl fun k _ => ?_)
  rw [hr, mul_comm]

/-- Finite arguments give finite logits. -/
theorem plain_real (x : FVec Ideal S8192x2048 .f32) (w : FVec Ideal S16x2048 .f32) (b : FVec Ideal S16 .f32)
    (hx : ∀ i, ∃ r : ℝ, x i = (r : EReal)) (hw : ∀ i, ∃ r : ℝ, w i = (r : EReal)) (hb : ∀ i, ∃ r : ℝ, b i = (r : EReal)) (n : Fin 8192) :
    ∃ v : Fin 16 → ℝ, ∀ e, row (plain x w b) n e = (v e : EReal) := by
  choose x' hx using hx
  choose w' hw using hw
  choose b' hb using hb
  have sum : ∀ (s : Finset (Fin 2048)) (f : Fin 2048 → ℝ), ∑ k ∈ s, (f k : EReal) = ((∑ k ∈ s, f k : ℝ) : EReal) := by
    intro s f
    induction s using Finset.induction_on with
    | empty => simp
    | insert a s ha ih => rw [Finset.sum_insert ha, Finset.sum_insert ha, ih, EReal.coe_add]
  refine ⟨fun e => ∑ k : Fin 2048, x' (ix2 n k) * w' (ix2 e k) + b' (ix1 e), fun e => ?_⟩
  unfold row
  rw [← ix2_eq_valueIdx, plain_apply, EReal.coe_add, ← sum, hb]
  refine congrArg (· + (b' (ix1 e) : EReal)) (Finset.sum_congr rfl fun k _ => ?_)
  rw [hx, hw, EReal.coe_mul]

end Cert.Proof.Ref

end
-- ==== Proof.Algebraic.lean ====
/-
  The two results of the kernel are the reference's, on finite arguments.
-/
module

public import proofs.«01_k».proof.Proof.Logits
public import proofs.«01_k».proof.Proof.Gen.Pre_finite
public import proofs.«01_k».proof.Proof.Gen.Kernel
public import proofs.«01_k».proof.Defs
public import Idealize.ShloMosaic.Lib.ReduceAll

@[expose] public section

noncomputable section

namespace Cert.Proof.Ref

open Cert.ReferenceIdeal Cert.ReferenceIdeal.Gen
open Idealize.ShloMosaic Idealize.ShloMosaic.TcCoe Idealize.SL.Sem

/-! ## The precondition -/

/-- A value whose magnitude is below infinity is a real number. -/
theorem real_of_lt (a : EReal) (h : FloatOps.cmpf (F := Ideal) (φ := .f32) .olt (FloatOps.absf (F := Ideal) (φ := .f32) a) (Ideal.ofBits .f32 0x7F800000#32) = 1#1) :
    ∃ r : ℝ, a = (r : EReal) := by
  have hi : Ideal.ofBits .f32 0x7F800000#32 = (⊤ : EReal) := by simp [Ideal.ofBits, Ideal.ieee]
  rw [hi, Ideal.absf_def, Ideal.cmpf_def] at h
  have lt : max a (-a) < ⊤ := by
    by_contra c
    simp [Ideal.cmp, c] at h
  rw [max_lt_iff] at lt
  refine ⟨a.toReal, (EReal.coe_toReal lt.1.ne ?_).symm⟩
  rintro rfl
  simp at lt

instance : Subsingleton Pre_finite.S_.Idx := ⟨fun a b => funext fun i => i.elim0⟩

/-- The precondition makes every entry of every argument a real number. -/
theorem finite_real (x : FVec Ideal S8192x2048 .f32) (w : FVec Ideal S16x2048 .f32) (b : FVec Ideal S16 .f32) (h : Cert.Pre_finite.fn (F := Ideal) x w b = fun _ => 1#1) :
    (∀ i, ∃ r : ℝ, x i = (r : EReal)) ∧ (∀ i, ∃ r : ℝ, w i = (r : EReal)) ∧ (∀ i, ∃ r : ℝ, b i = (r : EReal)) := by
  have e := congrFun h (fun i => i.elim0)
  dsimp only [Pre_finite.fn] at e
  have and1 : ∀ p q : BitVec 1, IntOp.andi p q = 1#1 → p = 1#1 ∧ q = 1#1 := by decide
  obtain ⟨e, e3⟩ := and1 _ _ e
  obtain ⟨e1, e2⟩ := and1 _ _ e
  exact ⟨fun i => real_of_lt _ (Host.reduce_andi_all _ _ _ _ _ e1 i), fun i => real_of_lt _ (Host.reduce_andi_all _ _ _ _ _ e2 i),
    fun i => real_of_lt _ (Host.reduce_andi_all _ _ _ _ _ e3 i)⟩

/-! ## The results -/

/-- A flat result read at a token and an expert. -/
theorem flat_apply (f : KernelIdeal.S131072.Idx → EReal) (n : Fin 8192) (e : Fin 16) :
    shapeCast KernelIdeal.S8192x16 f KernelIdeal.Gen.shapeCasts_S131072_S8192x16 (ix2 n e) = f (ix1 (⟨n.val * 16 + e.val, by omega⟩ : Fin 131072)) := by
  pointwise

theorem token_flat (n : Fin 8192) (e : Fin 16) : Gate.token (ix1 (⟨n.val * 16 + e.val, by omega⟩ : Fin 131072)) = n :=
  Fin.ext (by show (n.val * 16 + e.val) / 16 = n.val; omega)

theorem expert_flat (n : Fin 8192) (e : Fin 16) : Gate.expert (ix1 (⟨n.val * 16 + e.val, by omega⟩ : Fin 131072)) = e :=
  Fin.ext (by show (n.val * 16 + e.val) % 16 = e.val; omega)

section Results

variable (x : FVec Ideal S8192x2048 .f32) (w : FVec Ideal S16x2048 .f32) (b : FVec Ideal S16 .f32)
variable (hx : ∀ i, ∃ r : ℝ, x i = (r : EReal)) (hw : ∀ i, ∃ r : ℝ, w i = (r : EReal)) (hb : ∀ i, ∃ r : ℝ, b i = (r : EReal))
include hx hw hb

/-- The kernel's mask of finite arguments is the reference's. -/
theorem mask_eq : (shapeCast KernelIdeal.S8192x16 (Gate.maskOut (F := Ideal) (Gate.logits (F := Ideal) w x (shapeCast KernelIdeal.S16x1 b KernelIdeal.Gen.shapeCasts_S16_S16x1)))
    KernelIdeal.Gen.shapeCasts_S131072_S8192x16 : S8192x16.Idx → EReal) = mask (plain x w b) := by
  funext j
  obtain ⟨n, e, rfl⟩ : ∃ (n : Fin 8192) (e : Fin 16), j = ix2 n e := ⟨j 0, j 1, eq_ix2 j⟩
  obtain ⟨v, hv⟩ := plain_real x w b hx hw hb n
  refine (flat_apply _ n e).trans ?_
  unfold Gate.maskOut
  rw [token_flat, expert_flat, logits_eq, gate_eq_mask _ n (fun k => by rw [hv]; exact EReal.coe_ne_bot _), ix2_eq_valueIdx]

/-- The kernel's weights of finite arguments are the reference's. -/
theorem weight_eq : (shapeCast KernelIdeal.S8192x16 (Gate.weightOut (F := Ideal) (Gate.logits (F := Ideal) w x (shapeCast KernelIdeal.S16x1 b KernelIdeal.Gen.shapeCasts_S16_S16x1)))
    KernelIdeal.Gen.shapeCasts_S131072_S8192x16 : S8192x16.Idx → EReal) = soft (mulf (mask (plain x w b)) (plain x w b)) := by
  funext j
  obtain ⟨n, e, rfl⟩ : ∃ (n : Fin 8192) (e : Fin 16), j = ix2 n e := ⟨j 0, j 1, eq_ix2 j⟩
  obtain ⟨v, hv⟩ := plain_real x w b hx hw hb n
  refine (flat_apply _ n e).trans ?_
  unfold Gate.weightOut
  rw [token_flat, expert_flat, logits_eq, weight_eq_soft _ n v hv, ix2_eq_valueIdx]

end Results

end Cert.Proof.Ref

namespace Cert.Proof

open Idealize.ShloMosaic Idealize.ShloMosaic.TcCoe Idealize.SL.Sem

/-- On finite arguments the kernel and the reference end with the same two results. -/
theorem results_eq : Cert.algebraic_KernelIdeal_ReferenceIdeal_pre_finite := by
  intro m g m' g' hpre hargs
  refine ⟨fun c => Gate.maskRes (F := Ideal) m c, fun c => Gate.weightRes (F := Ideal) m c, ?_, ?_⟩
  · exact (θ_run Cert.KernelIdeal.defs _ _).mono (fun _ h c => ⟨(h.1 c).2.2.2.1, (h.1 c).2.2.2.2, (h.1 c).1, (h.1 c).2.1, (h.1 c).2.2.1⟩) (Gate.run_main (F := Ideal) m g)
  · refine (θ_run Cert.ReferenceIdeal.defs _ _).mono (fun r h c => ?_) (Cert.ReferenceIdeal.Value.run m' g')
    obtain ⟨h0, h1, h2⟩ := h c
    obtain ⟨a0, a1, a2⟩ := hargs c
    obtain ⟨hx, hw, hb⟩ := Ref.finite_real _ _ _ (hpre c)
    refine ⟨h0.trans ?_, h1.trans ?_, h2⟩
    · rw [a0, a1, a2]
      exact (Ref.mask_eq _ _ _ hx hw hb).symm
    · unfold Cert.ReferenceIdeal.Value.res_main_v35
      rw [a0, a1, a2]
      exact (Ref.weight_eq _ _ _ hx hw hb).symm

end Cert.Proof

end
-- ==== Proof.lean ====
/-
  The proof of the certificate's claims.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Pre_finite
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite.Gen.facts,
    frame_kernel, frame_ideal, fun m ρ _ => frame_ideal m ρ trivial, frame_reference, fun m ρ _ => frame_reference m ρ trivial, trivial, results_eq⟩

end Cert.Proof

end
